-- ==== Defs.lean ====
def Pre_Kernel [hPre_swap_Kernel : Cert.Pre_swap_Kernel.Facts] (m : (ℓ : Loc Cert.Kernel.nD Cert.Kernel.τ Cert.Kernel.sig) → Buf (Elt Bits) ℓ) : Prop :=
  ∀ c : Dev Cert.Kernel.nD,
    (Cert.Pre_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stay_Kernel [hPre_stay_Kernel : Cert.Pre_stay_Kernel.Facts] (m : (ℓ : Loc Cert.Kernel.nD Cert.Kernel.τ Cert.Kernel.sig) → Buf (Elt Bits) ℓ) : Prop :=
  ∀ c : Dev Cert.Kernel.nD,
    (Cert.Pre_stay_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swap_Kernel : Cert.Pre_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stay_Kernel [hPre_stay_Kernel : Cert.Pre_stay_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stay_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swap_ReferenceIdeal [hPre_swap_ReferenceIdeal : Cert.Pre_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stay_ReferenceIdeal [hPre_stay_ReferenceIdeal : Cert.Pre_stay_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stay_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceWords [hPre_swap_ReferenceIdeal : Cert.Pre_swap_ReferenceIdeal.Facts] (m : (ℓ : Loc Cert.ReferenceWords.nD Cert.ReferenceWords.τ Cert.ReferenceWords.sig) → Buf (Elt Bits) ℓ) : Prop :=
  ∀ c : Dev Cert.ReferenceWords.nD,
    (Cert.Pre_swap_ReferenceIdeal.fn (F := Bits) (m ((c.tc : Thread Cert.ReferenceWords.nD Cert.ReferenceWords.τ).loc Cert.ReferenceWords.main_arg0)) (m ((c.tc : Thread Cert.ReferenceWords.nD Cert.ReferenceWords.τ).loc Cert.ReferenceWords.main_arg1))) = (fun _ => 1#1)

def Pre_ReferenceWords_stay_ReferenceIdeal [hPre_stay_ReferenceIdeal : Cert.Pre_stay_ReferenceIdeal.Facts] (m : (ℓ : Loc Cert.ReferenceWords.nD Cert.ReferenceWords.τ Cert.ReferenceWords.sig) → Buf (Elt Bits) ℓ) : Prop :=
  ∀ c : Dev Cert.ReferenceWords.nD,
    (Cert.Pre_stay_ReferenceIdeal.fn (F := Bits) (m ((c.tc : Thread Cert.ReferenceWords.nD Cert.ReferenceWords.τ).loc Cert.ReferenceWords.main_arg0)) (m ((c.tc : Thread Cert.ReferenceWords.nD Cert.ReferenceWords.τ).loc Cert.ReferenceWords.main_arg1))) = (fun _ => 1#1)

def quiescent_Kernel [hKernel : Cert.Kernel.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stay_Kernel [hKernel : Cert.Kernel.Facts] [hPre_stay_Kernel : Cert.Pre_stay_Kernel.Facts] : Prop :=
  ∀ (m : (ℓ : Loc Cert.Kernel.nD Cert.Kernel.τ Cert.Kernel.sig) → Buf (Elt Bits) ℓ) (g : Dev Cert.Kernel.nD → PrngReg), Pre_Kernel_stay_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stay_Kernel [hKernelIdeal : Cert.KernelIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stay_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_ReferenceIdeal [hReferenceIdeal : Cert.ReferenceIdeal.Facts] [hPre_swap_ReferenceIdeal : Cert.Pre_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stay_ReferenceIdeal [hReferenceIdeal : Cert.ReferenceIdeal.Facts] [hPre_stay_ReferenceIdeal : Cert.Pre_stay_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stay_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceWords [hReferenceWords : Cert.ReferenceWords.Facts] [hPre_swap_ReferenceIdeal : Cert.Pre_swap_ReferenceIdeal.Facts] : Prop :=
  ∀ (m : (ℓ : Loc Cert.ReferenceWords.nD Cert.ReferenceWords.τ Cert.ReferenceWords.sig) → Buf (Elt Bits) ℓ) (g : Dev Cert.ReferenceWords.nD → PrngReg), Pre_ReferenceWords m →
    θ_run (Cert.ReferenceWords.defs (F := Bits)) (onTc (τ := Cert.ReferenceWords.τ) (Cert.ReferenceWords.main (F := Bits))) ⟨m, fun _ => 0, g⟩ (fun r => (∀ c : Dev Cert.ReferenceWords.nD,
      r.2.mem ((c.tc : Thread Cert.ReferenceWords.nD Cert.ReferenceWords.τ).loc Cert.ReferenceWords.main_arg0) = m ((c.tc : Thread Cert.ReferenceWords.nD Cert.ReferenceWords.τ).loc Cert.ReferenceWords.main_arg0)
      ∧ r.2.mem ((c.tc : Thread Cert.ReferenceWords.nD Cert.ReferenceWords.τ).loc Cert.ReferenceWords.main_arg1) = m ((c.tc : Thread Cert.ReferenceWords.nD Cert.ReferenceWords.τ).loc Cert.ReferenceWords.main_arg1))
      ∧ r.2.sem = fun _ => 0)

def quiescent_ReferenceWords_pre_stay_ReferenceIdeal [hReferenceWords : Cert.ReferenceWords.Facts] [hPre_stay_ReferenceIdeal : Cert.Pre_stay_ReferenceIdeal.Facts] : Prop :=
  ∀ (m : (ℓ : Loc Cert.ReferenceWords.nD Cert.ReferenceWords.τ Cert.ReferenceWords.sig) → Buf (Elt Bits) ℓ) (g : Dev Cert.ReferenceWords.nD → PrngReg), Pre_ReferenceWords_stay_ReferenceIdeal m →
    θ_run (Cert.ReferenceWords.defs (F := Bits)) (onTc (τ := Cert.ReferenceWords.τ) (Cert.ReferenceWords.main (F := Bits))) ⟨m, fun _ => 0, g⟩ (fun r => (∀ c : Dev Cert.ReferenceWords.nD,
      r.2.mem ((c.tc : Thread Cert.ReferenceWords.nD Cert.ReferenceWords.τ).loc Cert.ReferenceWords.main_arg0) = m ((c.tc : Thread Cert.ReferenceWords.nD Cert.ReferenceWords.τ).loc Cert.ReferenceWords.main_arg0)
      ∧ r.2.mem ((c.tc : Thread Cert.ReferenceWords.nD Cert.ReferenceWords.τ).loc Cert.ReferenceWords.main_arg1) = m ((c.tc : Thread Cert.ReferenceWords.nD Cert.ReferenceWords.τ).loc Cert.ReferenceWords.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stay_Kernel [hKernelIdeal : Cert.KernelIdeal.Facts] [hReferenceIdeal : Cert.ReferenceIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stay_Kernel m →
    (∀ c : Dev Cert.KernelIdeal.nD,
      m ((c.tc : Thread Cert.KernelIdeal.nD Cert.KernelIdeal.τ).loc Cert.KernelIdeal.main_arg0) = Layout.blockN ⟨3, ![1, 256, 256]⟩ ⟨3, ![2, 256, 256]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 256, 256]⟩ ⟨3, ![2, 256, 256]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_ReferenceWords [hKernel : Cert.Kernel.Facts] [hReferenceWords : Cert.ReferenceWords.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.ReferenceWords.nD Cert.ReferenceWords.τ Cert.ReferenceWords.sig) → Buf (Elt Bits) ℓ) (g' : Dev Cert.ReferenceWords.nD → PrngReg), Pre_Kernel m →
    (∀ c : Dev Cert.Kernel.nD,
      m ((c.tc : Thread Cert.Kernel.nD Cert.Kernel.τ).loc Cert.Kernel.main_arg0) = Layout.blockN ⟨3, ![1, 256, 256]⟩ ⟨3, ![2, 256, 256]⟩ (Layout.meshBlock [2, 2] ![[0], [], []] c) (m' (((0 : Dev Cert.ReferenceWords.nD).tc : Thread Cert.ReferenceWords.nD Cert.ReferenceWords.τ).loc Cert.ReferenceWords.main_arg0))
      ∧ m ((c.tc : Thread Cert.Kernel.nD Cert.Kernel.τ).loc Cert.Kernel.main_arg1) = m' (((0 : Dev Cert.ReferenceWords.nD).tc : Thread Cert.ReferenceWords.nD Cert.ReferenceWords.τ).loc Cert.ReferenceWords.main_arg1)) →
    ∃ (v0 : Buf (Elt Bits) (((0 : Dev Cert.ReferenceWords.nD).tc : Thread Cert.ReferenceWords.nD Cert.ReferenceWords.τ).loc Cert.ReferenceWords.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 256, 256]⟩ ⟨3, ![2, 256, 256]⟩ (Layout.meshBlock [2, 2] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.ReferenceWords.defs (F := Bits)) (onTc (τ := Cert.ReferenceWords.τ) (Cert.ReferenceWords.main (F := Bits))) ⟨m', fun _ => 0, g'⟩ (fun r =>
          r.2.mem (((0 : Dev Cert.ReferenceWords.nD).tc : Thread Cert.ReferenceWords.nD Cert.ReferenceWords.τ).loc Cert.ReferenceWords.main_v7) = v0
          ∧ r.2.mem (((0 : Dev Cert.ReferenceWords.nD).tc : Thread Cert.ReferenceWords.nD Cert.ReferenceWords.τ).loc Cert.ReferenceWords.main_arg0) = m' (((0 : Dev Cert.ReferenceWords.nD).tc : Thread Cert.ReferenceWords.nD Cert.ReferenceWords.τ).loc Cert.ReferenceWords.main_arg0)
          ∧ r.2.mem (((0 : Dev Cert.ReferenceWords.nD).tc : Thread Cert.ReferenceWords.nD Cert.ReferenceWords.τ).loc Cert.ReferenceWords.main_arg1) = m' (((0 : Dev Cert.ReferenceWords.nD).tc : Thread Cert.ReferenceWords.nD Cert.ReferenceWords.τ).loc Cert.ReferenceWords.main_arg1))

def bitexact_Kernel_ReferenceWords_pre_stay_Kernel [hKernel : Cert.Kernel.Facts] [hReferenceWords : Cert.ReferenceWords.Facts] [hPre_stay_Kernel : Cert.Pre_stay_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.ReferenceWords.nD Cert.ReferenceWords.τ Cert.ReferenceWords.sig) → Buf (Elt Bits) ℓ) (g' : Dev Cert.ReferenceWords.nD → PrngReg), Pre_Kernel_stay_Kernel m →
    (∀ c : Dev Cert.Kernel.nD,
      m ((c.tc : Thread Cert.Kernel.nD Cert.Kernel.τ).loc Cert.Kernel.main_arg0) = Layout.blockN ⟨3, ![1, 256, 256]⟩ ⟨3, ![2, 256, 256]⟩ (Layout.meshBlock [2, 2] ![[0], [], []] c) (m' (((0 : Dev Cert.ReferenceWords.nD).tc : Thread Cert.ReferenceWords.nD Cert.ReferenceWords.τ).loc Cert.ReferenceWords.main_arg0))
      ∧ m ((c.tc : Thread Cert.Kernel.nD Cert.Kernel.τ).loc Cert.Kernel.main_arg1) = m' (((0 : Dev Cert.ReferenceWords.nD).tc : Thread Cert.ReferenceWords.nD Cert.ReferenceWords.τ).loc Cert.ReferenceWords.main_arg1)) →
    ∃ (v0 : Buf (Elt Bits) (((0 : Dev Cert.ReferenceWords.nD).tc : Thread Cert.ReferenceWords.nD Cert.ReferenceWords.τ).loc Cert.ReferenceWords.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 256, 256]⟩ ⟨3, ![2, 256, 256]⟩ (Layout.meshBlock [2, 2] ![[0], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.ReferenceWords.defs (F := Bits)) (onTc (τ := Cert.ReferenceWords.τ) (Cert.ReferenceWords.main (F := Bits))) ⟨m', fun _ => 0, g'⟩ (fun r =>
          r.2.mem (((0 : Dev Cert.ReferenceWords.nD).tc : Thread Cert.ReferenceWords.nD Cert.ReferenceWords.τ).loc Cert.ReferenceWords.main_v7) = v0
          ∧ r.2.mem (((0 : Dev Cert.ReferenceWords.nD).tc : Thread Cert.ReferenceWords.nD Cert.ReferenceWords.τ).loc Cert.ReferenceWords.main_arg0) = m' (((0 : Dev Cert.ReferenceWords.nD).tc : Thread Cert.ReferenceWords.nD Cert.ReferenceWords.τ).loc Cert.ReferenceWords.main_arg0)
          ∧ r.2.mem (((0 : Dev Cert.ReferenceWords.nD).tc : Thread Cert.ReferenceWords.nD Cert.ReferenceWords.τ).loc Cert.ReferenceWords.main_arg1) = m' (((0 : Dev Cert.ReferenceWords.nD).tc : Thread Cert.ReferenceWords.nD Cert.ReferenceWords.τ).loc Cert.ReferenceWords.main_arg1))

def Claim : Prop :=
  ∃ (hKernel : Cert.Kernel.Facts) (hKernelIdeal : Cert.KernelIdeal.Facts) (hReferenceIdeal : Cert.ReferenceIdeal.Facts) (hReferenceWords : Cert.ReferenceWords.Facts) (hPre_swap_Kernel : Cert.Pre_swap_Kernel.Facts) (hPre_stay_Kernel : Cert.Pre_stay_Kernel.Facts) (hPre_swap_ReferenceIdeal : Cert.Pre_swap_ReferenceIdeal.Facts) (hPre_stay_ReferenceIdeal : Cert.Pre_stay_ReferenceIdeal.Facts),
    quiescent_Kernel (hKernel := hKernel) (hPre_swap_Kernel := hPre_swap_Kernel)
    ∧ quiescent_Kernel_pre_stay_Kernel (hKernel := hKernel) (hPre_stay_Kernel := hPre_stay_Kernel)
    ∧ quiescent_KernelIdeal (hKernelIdeal := hKernelIdeal) (hPre_swap_Kernel := hPre_swap_Kernel)
    ∧ quiescent_KernelIdeal_pre_stay_Kernel (hKernelIdeal := hKernelIdeal) (hPre_stay_Kernel := hPre_stay_Kernel)
    ∧ quiescent_ReferenceIdeal (hReferenceIdeal := hReferenceIdeal)
    ∧ quiescent_ReferenceIdeal_pre_swap_ReferenceIdeal (hReferenceIdeal := hReferenceIdeal) (hPre_swap_ReferenceIdeal := hPre_swap_ReferenceIdeal)
    ∧ quiescent_ReferenceIdeal_pre_stay_ReferenceIdeal (hReferenceIdeal := hReferenceIdeal) (hPre_stay_ReferenceIdeal := hPre_stay_ReferenceIdeal)
    ∧ quiescent_ReferenceWords (hReferenceWords := hReferenceWords) (hPre_swap_ReferenceIdeal := hPre_swap_ReferenceIdeal)
    ∧ quiescent_ReferenceWords_pre_stay_ReferenceIdeal (hReferenceWords := hReferenceWords) (hPre_stay_ReferenceIdeal := hPre_stay_ReferenceIdeal)
    ∧ preserves_Kernel_KernelIdeal
    ∧ algebraic_KernelIdeal_ReferenceIdeal (hKernelIdeal := hKernelIdeal) (hReferenceIdeal := hReferenceIdeal) (hPre_swap_Kernel := hPre_swap_Kernel)
    ∧ algebraic_KernelIdeal_ReferenceIdeal_pre_stay_Kernel (hKernelIdeal := hKernelIdeal) (hReferenceIdeal := hReferenceIdeal) (hPre_stay_Kernel := hPre_stay_Kernel)
    ∧ bitexact_Kernel_ReferenceWords (hKernel := hKernel) (hReferenceWords := hReferenceWords) (hPre_swap_Kernel := hPre_swap_Kernel)
    ∧ bitexact_Kernel_ReferenceWords_pre_stay_Kernel (hKernel := hKernel) (hReferenceWords := hReferenceWords) (hPre_stay_Kernel := hPre_stay_Kernel)
-- ==== Pre_stay_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stay_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swap_Kernel.lean ====
abbrev S1x256x256 : Shape := ⟨3, ![1, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swap_ReferenceIdeal.lean ====
abbrev S2x256x256 : Shape := ⟨3, ![2, 256, 256]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x256x256 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x256x256 : Shape := ⟨3, ![1, 256, 256]⟩
abbrev S2 : Shape := ⟨1, ![2]⟩
abbrev S256x256 : Shape := ⟨2, ![256, 256]⟩
abbrev S_ : Shape := ⟨0, ![]⟩
abbrev S1 : Shape := ⟨1, ![1]⟩

abbrev nBuf : Space → Nat
  | .hbm => 3
  | .vmem => 3
  | .smem => 1
  | _ => 0

abbrev bufTy : (tb : Table) → Fin (tcTables nBuf tb) → BufTy
  | .hbm, ⟨0, _⟩ => ⟨S1x256x256, .bf16⟩
  | .hbm, ⟨1, _⟩ => ⟨S2, .i32⟩
  | .hbm, ⟨2, _⟩ => ⟨S1x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S256x256, .bf16⟩
  | .local _ .smem, ⟨0, _⟩ => ⟨S2, .i32⟩
  | _, _ => ⟨S1x256x256, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : Index := Scalar.indexCast v2
  ![v6.toNat]
def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_2 v2
  let c2_i32_4 : BitVec 32 := 2#32
  let v10 : BitVec 32 := Scalar.muli v9 c2_i32_4
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v12 : BitVec 32 := Scalar.muli v5 c1_i32_5
  let v13 : BitVec 32 := Scalar.addi v11 v12
  v13.toNat
def k0_dev2 (d0 : Dev nD) (v7 : BitVec 32) : Nat :=
  let c0_i32_13 : BitVec 32 := 0#32
  let c2_i32_12 : BitVec 32 := 2#32
  let v19 : BitVec 32 := Scalar.muli v7 c2_i32_12
  let v20 : BitVec 32 := Scalar.addi c0_i32_13 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_14 : BitVec 32 := 1#32
  let v21 : BitVec 32 := Scalar.muli v5 c1_i32_14
  let v22 : BitVec 32 := Scalar.addi v20 v21
  v22.toNat

def k0_chk1 (d0 : Dev nD) (v7 : BitVec 32) : Prop :=
  ((k0_dev2 d0 v7) < nD)
theorem k0_dev2_lt : ∀ (d0 : Dev nD) (v7 : BitVec 32) (k0_hw1 : k0_chk1 d0 v7), (k0_dev2 d0 v7) < nD := fun d0 v7 k0_hw1 => k0_hw1

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x256x256, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .bf16⟩
  | .hbm, ⟨14, _⟩ => ⟨S2x256x256, .f32⟩
  | .hbm, ⟨15, _⟩ => ⟨S2x256x256, .bf16⟩
  | _, _ => ⟨S2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== ReferenceWords.lean ====
abbrev S2x256x256 : Shape := ⟨3, ![2, 256, 256]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x256x256, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x256x256, .bf16⟩
  | _, _ => ⟨S2x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Route.lean ====
/-
# Where each device sends its block

The mesh is 2 × 2. Device `c` sits at row `c / 2` and column `c % 2`; the exchange runs along a column, so the one other
device it can reach is its *mate*, the device of the same column in the other row. The table `pi` names, row by row, the
row a block is sent to. Two tables are permutations of the two rows, and a Boolean tells them apart: `true` for `[1, 0]`,
which exchanges the rows, and `false` for `[0, 1]`, which leaves every block where it is.
-/
module

public import proofs.«01_k».proof.Proof.Gen.KernelIdeal
public import proofs.«01_k».proof.Proof.Gen.KernelIdeal.Skeleton
public import Idealize.ShloMosaic.Lib.Pipeline.Value
public import Idealize.ShloMosaic.Lib.VecWindow

@[expose] public section

noncomputable section

namespace Cert.Permute

open Cert.KernelIdeal Cert.KernelIdeal.Gen
open Idealize.ShloMosaic Idealize.ShloMosaic.TcCoe

/-! ## Devices -/

set_option backward.proofsInPublic true in
/-- The device of the same column in the other row. -/
def mate (c : Dev nD) : Dev nD := ⟨(c.val + 2) % 4, Nat.mod_lt _ (by decide)⟩

theorem mate_mate (c : Dev nD) : mate (mate c) = c := by revert c; decide

/-- The device `c` sends its block to — and, the table being its own inverse, the one whose block it receives. -/
def goal (s : Bool) (c : Dev nD) : Dev nD := if s then mate c else c

theorem goal_goal (s : Bool) (c : Dev nD) : goal s (goal s c) = c := by
  cases s
  · rfl
  · exact mate_mate c

/-- Passing to the mate permutes the devices. -/
def mates : Dev nD ≃ Dev nD := ⟨mate, mate, mate_mate, mate_mate⟩

/-- So does passing to the device sent to. -/
def goals (s : Bool) : Dev nD ≃ Dev nD := ⟨goal s, goal s, goal_goal s, goal_goal s⟩

/-! ## The table -/

/-- The word the table `s` holds for row `i`: the row a block of row `i` is sent to. -/
def entry (s : Bool) (i : ℕ) : BitVec 32 := BitVec.ofNat 32 (if s then 1 - i else i)

/-- Device by device, the launch memory's copy of `pi` is the table `s`. -/
def Follows {F : FTy → Type} (s : Bool) (m : (ℓ : Loc nD τ sig) → Buf (Elt F) ℓ) : Prop :=
  ∀ c : Dev nD, (m ((c : Thread nD τ).loc main_arg1) : IVec S2 32) = fun i => entry s (i 0).val

/-- The device the entry handshake signals is the mate. -/
theorem signals_mate (c : Dev nD) : (⟨k0_dev1 c, k0_dev1_lt c⟩ : Dev nD) = mate c := by
  revert c; decide +kernel

/-- The word read at a device's own row names a device of the mesh, -/
theorem entry_names (s : Bool) (c : Dev nD) : k0_chk1 c (entry s (c.val / 2)) := by
  revert s c; decide +kernel

/-- and that device is the one its block goes to. -/
theorem sends_goal (s : Bool) (c : Dev nD) (h : k0_chk1 c (entry s (c.val / 2))) :
    (⟨k0_dev2 c (entry s (c.val / 2)), k0_dev2_lt c _ h⟩ : Dev nD) = goal s c := by
  have e : ∀ (s : Bool) (c : Dev nD), k0_dev2 c (entry s (c.val / 2)) = (goal s c).val := by decide +kernel
  exact Fin.ext (e s c)

end Cert.Permute

end
-- ==== Proof.Protocol.lean ====
/-
# The exchange as rounds

Each device has three semaphore cells, and each cell sees one round with one payment:

* the *door* is the runtime's barrier semaphore: the mate pays one unit, once it has entered the kernel. Where the rows are
  exchanged the unit brings the mate's result buffer, free to be written;
* the *sent* cell counts a device's own outgoing transfer: it is paid when the block has been read, and gives the scratch
  buffer back;
* the *came* cell counts the incoming transfer: it is paid by the device whose block arrives, and gives the result buffer
  with that block in it.
-/
module

public import proofs.«01_k».proof.Proof.Route
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging pipeline's rounds and the exchange's, each cell with one payment a round. -/
abbrev Ghost : Type := UR sig nD τ × URounds (GSem nD τ sig) Unit

local notation "𝕄" => MT nD τ sig Unit (Elt F) ℕ Ghost ℕ

/-- The staging pipeline's half of the ghost state, -/
abbrev staging : Emb (UR sig nD τ) (MT nD τ sig Unit (Elt F) ℕ Ghost ℕ) := embL
/-- and the exchange's. -/
abbrev exch : Emb (URounds (GSem nD τ sig) Unit) (MT nD τ sig Unit (Elt F) ℕ Ghost ℕ) := embR

/-! ## Buffers and cells -/

/-- The staged table, -/
abbrev piM : Memref sig .tc .smem S2 .i32 := Memref.whole cc0_stg0_0
/-- the staged block of `x`, -/
abbrev xM : Memref sig .tc .vmem S1x256x256 .bf16 := Memref.whole cc0_stg1_0
/-- the staged block of the result, -/
abbrev outM : Memref sig .tc .vmem S1x256x256 .bf16 := Memref.whole cc0_stg2_0
/-- the scratch block a device sends from, -/
abbrev commM : Memref sig .tc .vmem S256x256 .bf16 := Memref.whole cc0_scratch0
/-- and the result's block seen as a matrix, the form it is written in. -/
abbrev landM : Memref sig .tc .vmem S256x256 .bf16 :=
  (outM.slice (Rect.unit (s := S1x256x256) ![0, 0, 0] S1x256x256.size inb_S1x256x256_S1x256x256_0_0_0) (fun _ => rfl)).squeeze
    S256x256 squeezes_S1x256x256_S256x256

/-- The three semaphores: door, sent, came. -/
abbrev semOf : Fin 3 → SemLoc sig
  | 0 => .reg (SemArray.scalar (sig.barrier 0 rfl) : Sems sig S_).sem
  | 1 => .dma cc0_scratch1.sem
  | 2 => .dma cc0_scratch2.sem

theorem semOf_injective : Function.Injective semOf := by decide

/-- Device `c`'s cell of the `k`-th semaphore. -/
abbrev cellAt (c : Dev nD) (k : Fin 3) : GSem nD τ sig := ((c : Thread nD τ), semOf k)

theorem cellAt_inj {c c' : Dev nD} {k k' : Fin 3} (h : cellAt c k = cellAt c' k') : c = c' ∧ k = k' :=
  ⟨congrArg (fun g : GSem nD τ sig => g.1.1) h, semOf_injective (congrArg Prod.snd h)⟩

/-- Which of the three a semaphore is. -/
def kind (q : SemLoc sig) : Fin 3 := if q = semOf 0 then 0 else if q = semOf 1 then 1 else 2

theorem kind_semOf (k : Fin 3) : kind (semOf k) = k := by revert k; decide

/-- What one block credits a transfer's cells with. -/
abbrev credit : ℕ := commM.view.dmaCredit

/-- The result block in matrix form counts the same. -/
theorem landM_credit : landM.view.dmaCredit = credit := rfl

theorem credit_pos : 0 < credit := View.dmaCredit_pos _ (by decide)

/-! ## Contents -/

variable (s : Bool) (m : (ℓ : Loc nD τ sig) → Buf (Elt F) ℓ)

/-- Device `c`'s block of `x` as staged. -/
def xOf (c : Dev nD) : (cc0_stg1_0 : Ref sig .tc).ty.Contents (Elt F) :=
  (win0_1.blk (0 : Fin 1)).view.read (Elt F) (m ((c : Thread nD τ).loc main_arg0))

/-- Device `c`'s table as staged. -/
def piOf (c : Dev nD) : (cc0_stg0_0 : Ref sig .tc).ty.Contents (Elt F) :=
  (win0_0.blk (0 : Fin 1)).view.read (Elt F) (m ((c : Thread nD τ).loc main_arg1))

/-- What device `c` sends: its block as a matrix. -/
def packed (c : Dev nD) : (cc0_scratch0 : Ref sig .tc).ty.Contents (Elt F) := k0_pay1 (xOf m c)

/-- What device `c` ends with: the block of the device that sent to it. -/
def outOf (c : Dev nD) : (cc0_stg2_0 : Ref sig .tc).ty.Contents (Elt F) := xOf m (goal s c)

omit [FloatOps F] in
/-- The result block read in matrix form. -/
theorem landM_read (f : (cc0_stg2_0 : Ref sig .tc).ty.Contents (Elt F)) :
    landM.view.read (Elt F) f = fun y => f (Shape.reshapeEquiv squeezes_S1x256x256_S256x256.numel_eq y) :=
  Memref.read_squeeze_full outM inb_S1x256x256_S1x256x256_0_0_0 squeezes_S1x256x256_S256x256 f

/-- The matrix form of the result block covers the whole buffer. -/
theorem landM_set : landM.view.set = Finset.univ := by
  rw [Memref.view_squeeze, View.set_reshape]
  refine (View.set_slice_whole _ _).trans (Finset.eq_univ_of_forall fun i => ?_)
  rw [← Rect.map_emb_univ]
  exact Finset.mem_map.mpr ⟨i, Finset.mem_univ _, Rect.emb_unit_full (s := S1x256x256) (off := ![0, 0, 0]) inb_S1x256x256_S1x256x256_0_0_0 i⟩

/-- A packed block written over the whole result block in matrix form leaves exactly the block that was packed. -/
theorem unpacked (f : (cc0_stg2_0 : Ref sig .tc).ty.Contents (Elt F)) (c : Dev nD) :
    landM.view.write (Elt F) f (commM.view.read (Elt F) (packed m c)) Finset.univ = xOf m c := by
  have h := View.read_write_univ (v := landM.view) (Val := Elt F) f (commM.view.read (Elt F) (packed m c))
  rw [landM_read, View.read_whole] at h
  funext i
  obtain ⟨y, rfl⟩ := (Shape.reshapeEquiv squeezes_S1x256x256_S256x256.numel_eq).surjective i
  refine (congrFun h y).trans ?_
  show k0_pay1 (xOf m c) y = _
  unfold k0_pay1
  rw [shapeCast_self]
  rfl

/-! ## Ownership of the two buffers a transfer touches -/

/-- Device `c` holds its whole result block at contents `f`, in the form a transfer writes it. -/
def holdsOut (c : Dev nD) (f : Buf (Elt F) (landM.view.loc (c : Thread nD τ))) : sProp 𝕄 :=
  landM.view.loc (c : Thread nD τ) ↦[landM.view.set]{fullShare} f

/-- Device `c` holds its whole scratch block at contents `f`. -/
def holdsComm (c : Dev nD) (f : Buf (Elt F) (commM.view.loc (c : Thread nD τ))) : sProp 𝕄 :=
  commM.view.loc (c : Thread nD τ) ↦[commM.view.set]{fullShare} f

omit [FloatOps F] in
theorem holdsOut_eq (c : Dev nD) (f : Buf (Elt F) ((c : Thread nD τ).loc cc0_stg2_0)) :
    (holdsOut c f : sProp 𝕄) = (((c : Thread nD τ).loc cc0_stg2_0) ↦{fullShare} f : sProp 𝕄) := by
  unfold holdsOut; rw [landM_set]

omit [FloatOps F] in
theorem holdsComm_eq (c : Dev nD) (f : Buf (Elt F) ((c : Thread nD τ).loc cc0_scratch0)) :
    (holdsComm c f : sProp 𝕄) = (((c : Thread nD τ).loc cc0_scratch0) ↦{fullShare} f : sProp 𝕄) := by
  unfold holdsComm; rw [View.set_whole]

/-! ## Payments -/

/-- What the door's unit brings device `c`: where the rows are exchanged, the mate's result block, at whatever it holds. -/
def lent (c : Dev nD) : sProp 𝕄 := if s then iprop(∃ f, holdsOut (mate c) f) else iprop(emp)

/-- What a device keeps for itself at the door: where the rows stay, its own result block. -/
def kept (c : Dev nD) : sProp 𝕄 := if s then iprop(emp) else iprop(∃ f, holdsOut c f)

omit [FloatOps F] in
/-- A device's result block is what it lends its mate and what it keeps. -/
theorem lend (c : Dev nD) : iprop(∃ f, holdsOut c f) ⊢ (iprop(lent s (mate c) ∗ kept s c) : sProp 𝕄) := by
  cases s
  · exact Laws.emp_sep.2
  · show _ ⊢ iprop((∃ f, holdsOut (mate (mate c)) f) ∗ emp)
    rw [mate_mate]
    exact Laws.sep_emp.2

omit [FloatOps F] in
/-- What a device was lent and what it kept is the result block of the device it sends to. -/
theorem borrow (c : Dev nD) : (iprop(lent s c ∗ kept s c) : sProp 𝕄) ⊢ iprop(∃ f, holdsOut (goal s c) f) := by
  cases s
  · exact Laws.emp_sep.1
  · exact Laws.sep_emp.1

omit [FloatOps F] in
instance holdsOut_storable (c : Dev nD) (f) : BI.Storable (upEmb : UEmb _ 𝕄) (holdsOut (F := F) c f) := by
  unfold holdsOut; infer_instance
omit [FloatOps F] in
instance holdsComm_storable (c : Dev nD) (f) : BI.Storable (upEmb : UEmb _ 𝕄) (holdsComm (F := F) c f) := by
  unfold holdsComm; infer_instance
omit [FloatOps F] in
instance lent_storable (c : Dev nD) : BI.Storable (upEmb : UEmb _ 𝕄) (lent (F := F) s c) := by
  unfold lent; split <;> infer_instance

/-- The number of units the payment of a cell of kind `k` counts. -/
def units : Fin 3 → ℕ
  | 0 => 1
  | _ => credit

theorem units_pos (k : Fin 3) : 0 < units k := by
  match k with
  | 0 => exact Nat.one_pos
  | 1 => exact credit_pos
  | 2 => exact credit_pos

/-- What comes with it. -/
def brings (c : Dev nD) : Fin 3 → sProp 𝕄
  | 0 => lent s c
  | 1 => holdsComm c (packed m c)
  | 2 => holdsOut c (outOf s m c)

/-- The exchange: one round at every cell of the three semaphores, one payment in it. -/
def plan : Rounds.Schedule (GSem nD τ sig) Unit 𝕄 where
  duties g r := if r = 0 ∧ ∃ k, g = cellAt g.1.1 k then {()} else ∅
  unitless _ := False
  amount g _ _ := units (kind g.2)
  payload g _ _ := brings s m g.1.1 (kind g.2)
  amount_pos g _ _ _ := units_pos _

instance brings_storable (c : Dev nD) (k : Fin 3) : BI.Storable (upEmb : UEmb _ 𝕄) (brings s m c k) := by
  match k with
  | 0 => exact lent_storable s c
  | 1 => exact holdsComm_storable c _
  | 2 => exact holdsOut_storable c _

instance plan_storable (g : GSem nD τ sig) (r : ℕ) (d : Unit) :
    BI.Storable (upEmb : UEmb _ 𝕄) ((plan s m).payload g r d) := brings_storable s m g.1.1 (kind g.2)

section Cells

variable (c : Dev nD) (k : Fin 3)

theorem plan_duties : (plan s m).duties (cellAt c k) 0 = {()} := if_pos ⟨rfl, k, rfl⟩

theorem plan_mem : () ∈ (plan s m).duties (cellAt c k) 0 := by rw [plan_duties]; exact Finset.mem_singleton_self _

/-- No cell has a second round. -/
theorem plan_over (g : GSem nD τ sig) (r : ℕ) (hr : 1 ≤ r) : (plan s m).duties g r = ∅ :=
  if_neg fun h => absurd h.1 (by omega)

theorem plan_amount : (plan s m).amount (cellAt c k) 0 () = units k := congrArg units (kind_semOf k)

theorem plan_payload : (plan s m).payload (cellAt c k) 0 () = brings s m c k := congrArg (brings s m c) (kind_semOf k)

theorem plan_expect : (plan s m).expect (cellAt c k) 0 = units k := by
  unfold Schedule.expect Schedule.amountOf
  rw [plan_duties, Finset.sum_singleton, plan_amount]

/-- All that a cell's round brings, nothing of it taken yet. -/
theorem plan_rest : bigSep ((plan s m).duties (cellAt c k) 0 \ ∅) (fun d => (plan s m).payload (cellAt c k) 0 d) = brings s m c k := by
  rw [Finset.sdiff_empty, plan_duties, bigSep_singleton, plan_payload]

end Cells

/-! ## Debts, and who may wait -/

/-- What device `c` owes when the kernel starts: a block's credit to the came cell of the device it sends to, and a unit to
    its mate's door. -/
def debt (c : Dev nD) : CellTallies nD τ sig Unit :=
  tallyAt (cellAt (goal s c) 2) () (units 2) + tallyAt (cellAt (mate c) 0) () (units 0)

/-- Every TensorCore cell is tracked. -/
def tracked (g : GSem nD τ sig) : Finset Unit := if g.1.2 = .tc then {()} else ∅

/-- The order of waiting: staging and sent cells below doors, doors below came cells. -/
def height (g : GSem nD τ sig) (_ : Unit) : ℕ := if g.2 = semOf 0 then 1 else if g.2 = semOf 2 then 2 else 0

theorem tracked_off (g : GSem nD τ sig) (h : g.1.2 ≠ .tc) : tracked g = ∅ := if_neg h

theorem tracked_tc (c : Dev nD) (q : SemLoc sig) : () ∈ tracked ((c : Thread nD τ), q) := by
  rw [tracked, if_pos rfl]; exact Finset.mem_singleton_self _

/-- A device that owes only cells of height over `n` may wait on a cell of height `n`. -/
theorem may_wait (c : Dev nD) (q : SemLoc sig) (n : ℕ) (hq : height ((c : Thread nD τ), q) () = n)
    (O : CellTallies nD τ sig Unit) (hO : ∀ g u, 0 < O g u → ∃ d k, g = cellAt d k ∧ n < height g ()) :
    (levAts tracked height : sProp 𝕄) ⊢ MayWait (c : Thread nD τ) q () O :=
  MayOwe.of_cut (L := tracked) (lev := height) n
    (fun p hp => by rw [Finset.mem_singleton.mp hp]; exact tracked_tc c q)
    (fun g u hg => by obtain ⟨d, k, rfl, -⟩ := hO g u hg; exact tracked_tc d _)
    (fun p hp => by rw [Finset.mem_singleton.mp hp]; exact hq.le)
    (fun g u hg => by obtain ⟨d, k, -, h⟩ := hO g u hg; exact h)

/-- A debt to one cell is owed at that cell alone. -/
theorem owed_at {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem height_came (d : Dev nD) : height (cellAt d 2) () = 2 := by
  have h : (cellAt d 2).2 ≠ semOf 0 := fun h => absurd (@semOf_injective 2 0 h) (by decide)
  unfold height; rw [if_neg h, if_pos rfl]

theorem height_door (d : Dev nD) : height (cellAt d 0) () = 1 := if_pos rfl

/-- At its door a device owes only the transfer it is about to start. -/
theorem may_wait_door (c : Dev nD) :
    (levAts tracked height : sProp 𝕄) ⊢ MayWait (c : Thread nD τ) (semOf 0) () (tallyAt (cellAt (goal s c) 2) () (units 2)) :=
  may_wait c _ 1 (height_door c) _ fun g u hg => by
    obtain rfl := owed_at hg
    exact ⟨_, 2, rfl, by rw [height_came]; decide⟩

/-- A staging wait is allowed before the kernel has started and after it has ended. -/
theorem may_wait_staging (c : Dev nD) (q : DmaSem sig) (hq : SemLoc.dma q ≠ semOf 2) (O : CellTallies nD τ sig Unit)
    (hO : O = debt s c ∨ O = 0) : (levAts tracked height : sProp 𝕄) ⊢ MayWait (c : Thread nD τ) (.dma q) () O := by
  refine may_wait c _ 0 ?_ _ fun g u hg => ?_
  · unfold height; rw [if_neg (fun h => by cases h), if_neg hq]
  · rcases hO with rfl | rfl
    · unfold debt at hg
      rw [Pi.add_apply, Finsupp.add_apply] at hg
      rcases Nat.pos_iff_ne_zero.mp hg |> fun h => (by omega :
        0 < tallyAt (cellAt (goal s c) 2) () (units 2) g u ∨ 0 < tallyAt (cellAt (mate c) 0) () (units 0) g u) with h | h
      · obtain rfl := owed_at h
        exact ⟨_, 2, rfl, by rw [height_came]; decide⟩
      · obtain rfl := owed_at h
        exact ⟨_, 0, rfl, by rw [height_door]; decide⟩
    · exact absurd hg (Nat.lt_irrefl 0)

end Cert.Permute

end
-- ==== Proof.Body.lean ====
/-
# One device's run of the kernel

From the staged table and block, a free result block and scratch block, and its share of the exchange, a device ends with
the block of the device that sends to it in its result block, its scratch block back, and its three cells at zero.
-/
module

public import proofs.«01_k».proof.Proof.Protocol

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (s : Bool) (m : (ℓ : Loc nD τ sig) → Buf (Elt F) ℓ)

/-! ## What a device holds of the exchange -/

/-- What everyone knows: every cell's invariant, at the names `K`, and that every cell is in its first round. -/
def known (K : Dev nD × Fin 3 → ℕ) : sProp 𝕄 :=
  iprop((bigSep Finset.univ fun ck : Dev nD × Fin 3 => cellInv exch (plan s m) (K ck) (cellAt ck.1 ck.2))
    ∗ bigSep Finset.univ fun ck : Dev nD × Fin 3 => reached exch (cellAt ck.1 ck.2) 0)

instance known_persistent (K : Dev nD × Fin 3 → ℕ) : BI.Persistent (known s m K) := by unfold known; infer_instance

theorem known_inv (K : Dev nD × Fin 3 → ℕ) (c : Dev nD) (k : Fin 3) :
    known s m K ⊢ cellInv exch (plan s m) (K (c, k)) (cellAt c k) := by
  unfold known
  iintro ⟨H, -⟩
  iapply (show (bigSep Finset.univ fun ck : Dev nD × Fin 3 => (cellInv exch (plan s m) (K ck) (cellAt ck.1 ck.2) : sProp 𝕄))
    ⊢ cellInv exch (plan s m) (K (c, k)) (cellAt c k) from bigSep_elim (Finset.mem_univ (c, k)))
  iexact H

theorem known_reached (K : Dev nD × Fin 3 → ℕ) (c : Dev nD) (k : Fin 3) :
    known s m K ⊢ reached exch (cellAt c k) 0 := by
  unfold known
  iintro ⟨-, H⟩
  iapply (show (bigSep Finset.univ fun ck : Dev nD × Fin 3 => (reached exch (cellAt ck.1 ck.2) 0 : sProp 𝕄))
    ⊢ reached exch (cellAt c k) 0 from bigSep_elim (Finset.mem_univ (c, k)))
  iexact H

/-- A device's own part: its place at each of its cells, and the right to make its three payments — at its mate's door, at
    its own sent cell, and at the came cell of the device it sends to. -/
def part (c : Dev nD) : sProp 𝕄 :=
  iprop((atPos exch (cellAt c 0) 0 ∅ 0 ∗ atPos exch (cellAt c 1) 0 ∅ 0 ∗ atPos exch (cellAt c 2) 0 ∅ 0)
    ∗ dutyTok exch (cellAt (mate c) 0) 0 () ∗ dutyTok exch (cellAt c 1) 0 () ∗ dutyTok exch (cellAt (goal s c) 2) 0 ())

/-- The credit the others owe it: its door's unit and its incoming block. -/
def due (c : Dev nD) : sProp 𝕄 :=
  iprop(cred (tallyAt (cellAt c 0) () (units 0)) ∗ cred (tallyAt (cellAt c 2) () (units 2)))

/-- All a device enters the kernel with. -/
def entry₀ (c : Dev nD) : sProp 𝕄 :=
  iprop((∃ K, known s m K ∗ part s c) ∗ due c ∗ levAts tracked height)

/-- A device's three cells, closed, their counters at zero. -/
def closed (c : Dev nD) : sProp 𝕄 :=
  iprop(semVal (cellAt c 0) 0 ∗ semVal (cellAt c 1) 0 ∗ semVal (cellAt c 2) 0)

/-! ## The pipeline's data -/

/-- The one grid point. -/
abbrev pt : Fin cfg0.N := t0_0

/-- The kernel on device `c` as the staging pipeline sees it: the launch memory's arrays; the table and the block left as
    staged, the result the block received; the exchange's share before and its cells closed after; the debt paid. -/
def dats (_ : Fin 1) (c : Dev nD) : Dat τ (Elt F) Unit ℕ Ghost ℕ cfg0 c where
  A w := m ((cfg0.win w).arr.view.loc (c : Thread nD τ))
  after w _ := match w with
    | ⟨0, _⟩ => piOf m c
    | ⟨1, _⟩ => xOf m c
    | ⟨2, _⟩ => outOf s m c
  Φ t := match t with
    | ⟨0, _⟩ => iprop(entry₀ s m c ∗ ∃ f, holdsComm c f)
    | ⟨_ + 1, _⟩ => iprop(holdsComm c (packed m c) ∗ closed c)
  q _ := fullShare
  owed t := match t with
    | ⟨0, _⟩ => debt s c
    | ⟨_ + 1, _⟩ => 0

omit [FloatOps F] in
/-- A staging buffer, held whole. -/
theorem owns_buffer (c : Dev nD) (b : Ref sig .tc) (X : b.ty.Contents (Elt F)) :
    (owns (Ix := Unit) (Name := ℕ) (U := Ghost) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## Reading and writing the buffers -/

abbrev xRect : Rect S1x256x256 := Rect.unit (s := S1x256x256) ![0, 0, 0] S1x256x256.size inb_S1x256x256_S1x256x256_0_0_0
abbrev commRect : Rect S256x256 := Rect.unit (s := S256x256) ![0, 0] S256x256.size inb_S256x256_S256x256_0_0
abbrev piRect (c : Dev nD) : Rect S2 := Rect.unit (s := S2) (k0_off1 c) S1.size (k0_off1_inb c)

omit [FloatOps F] in
theorem read_x (f : (cc0_stg1_0 : Ref sig .tc).ty.Contents (Elt F)) : xM.view.readAt (Elt F) xRect.toLoadRect f = f :=
  Memref.readAt_unit_zero (Elt F) cc0_stg1_0 (funext fun a => by fin_cases a <;> rfl) _ f

omit [FloatOps F] in
theorem write_comm (f w : (cc0_scratch0 : Ref sig .tc).ty.Contents (Elt F)) :
    (commM.access commRect : View sig .tc _ _ _).write (Elt F) f w Finset.univ = w :=
  Memref.write_access_unit_zero_univ (Elt F) cc0_scratch0 (funext fun a => by fin_cases a <;> rfl) _ f w

/-- The word a device reads of its staged table. -/
abbrev wordOf (c : Dev nD) : BitVec 32 :=
  (piM.access (piRect c) : View sig .tc _ _ _).read (Elt F) (piOf m c) (Shape.Idx.first (s := S1) (numel1_S1.symm ▸ Nat.one_pos))

omit [FloatOps F] in
/-- It is the table's entry at the device's own row, -/
theorem word_read (hm : Follows s m) (c : Dev nD) : wordOf m c = entry s (c.val / 2) := by
  show (m ((c : Thread nD τ).loc main_arg1) : IVec S2 32) _ = _
  rw [hm c]
  show entry s _ = _
  congr 1
  fin_cases c <;> rfl

omit [FloatOps F] in
/-- so it names a device. -/
theorem word_names (hm : Follows s m) (c : Dev nD) : k0_chk1 c (wordOf m c) := by
  rw [word_read s m hm c]; exact entry_names s c

/-! ## The transfer -/

/-- The device a word names is the one its block goes to, if the word is the table's entry. -/
theorem named (c : Dev nD) (w : BitVec 32) (hw : w = entry s (c.val / 2)) (h : k0_chk1 c w) :
    (⟨k0_dev2 c w, k0_dev2_lt c w h⟩ : Dev nD) = goal s c := by subst hw; exact sends_goal s c h

/-- Starting the transfer: the packed block and the goal's result block go in, both payments are made as it lands, and what
    remains is the credit at the sent cell. -/
theorem wp_transfer (K : Dev nD × Fin 3 → ℕ) (c n : Dev nD) (hn : n = goal s c)
    {hsc : (landM : Memref sig (Dev.tc n : Thread nD τ).2.kind .vmem S256x256 .bf16).view.ref.isScScratch = false}
    {hsrc : commM.view.WordExact} {hdst : landM.view.WordExact}
    {hsem : DmaTarget.Typed .vmem (semOf 2) (.remote (Dev.tc n : Thread nD τ) landM (semOf 1) hsc)}
    {α : Type} {Q : α → sProp 𝕄} {k : PUnit → Prog (TpuEff nD τ sig (Elt F) Λ₀ .tc) α}
    (f : Buf (Elt F) (landM.view.loc (goal s c : Thread nD τ))) (W : Waits sig Unit) :
    iprop(cellInv exch (plan s m) (K (c, 1)) (cellAt c 1) ∗ cellInv exch (plan s m) (K (goal s c, 2)) (cellAt (goal s c) 2)
        ∗ holdsComm c (packed m c) ∗ holdsOut (goal s c) f
        ∗ owes (c : Thread nD τ) (tallyAt (cellAt (goal s c) 2) () (units 2)) W
        ∗ dutyTok exch (cellAt c 1) 0 () ∗ reached exch (cellAt c 1) 0
        ∗ dutyTok exch (cellAt (goal s c) 2) 0 () ∗ reached exch (cellAt (goal s c) 2) 0)
      ⊢ iprop(((cred (tallyAt (cellAt c 1) () (units 1)) ∗ owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma commM (.remote (Dev.tc n : Thread nD τ) landM (semOf 1) hsc) (semOf 2) hsrc hdst hsem) k) Q) := by
  subst hn
  unfold holdsComm holdsOut
  exact Rounds.wp_send_pointsTo Variants.none exch (plan s m) (c : Thread nD τ) none (κ₁ := K (c, 1)) (κ₂ := K (goal s c, 2))
    (r₁ := 0) (r₂ := 0) (d₁ := ()) (d₂ := ()) (fd := f)
    (plan_mem s m c 1) (plan_mem s m (goal s c) 2) () () (units 2) rfl (plan_amount s m c 1) (plan_amount s m (goal s c) 2)
    0 (by rw [zero_add]) (W := W)
    (by rw [plan_payload]; exact BI.Entails.refl _)
    (by rw [plan_payload, unpacked]; unfold brings holdsOut outOf; rw [goal_goal])

/-! ## The run -/

/-- A staging buffer of device `c` at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Before the kernel's one point: the exchange's share, the debt, the three windows as the pipeline leaves them. -/
def before (c : Dev nD) : sProp 𝕄 :=
  iprop((entry₀ s m c ∗ ∃ f, holdsComm c f) ∗ (dats s m 0 c).owesAt () pt.castSucc
    ∗ (∃ d, staged c cc0_stg0_0 ((dats s m 0 c).before (0 : Fin 3) pt d))
    ∗ (∃ d, staged c cc0_stg1_0 ((dats s m 0 c).before (1 : Fin 3) pt d))
    ∗ (∃ d, staged c cc0_stg2_0 ((dats s m 0 c).before (2 : Fin 3) pt d)))

/-- After it: the scratch block and the closed cells, no debt, the windows as `dats` says the body leaves them. -/
def after (c : Dev nD) : sProp 𝕄 :=
  iprop((holdsComm c (packed m c) ∗ closed c) ∗ (dats s m 0 c).owesAt () pt.succ
    ∗ staged c cc0_stg0_0 (piOf m c) ∗ staged c cc0_stg1_0 (xOf m c) ∗ staged c cc0_stg2_0 (outOf s m c))

/-- A cell past its one round closes: its counter at zero is the device's again. -/
theorem close_cell (K : Dev nD × Fin 3 → ℕ) (c : Dev nD) (k : Fin 3) :
    iprop(known s m K ∗ atPos exch (cellAt c k) (0 + 1) ∅ 0) ⊢ |={Set.univ}=> semVal (cellAt c k) 0 := by
  iintro ⟨#Hk, Hat⟩
  iapply (Rounds.cell_close exch (plan s m) (Set.mem_univ (K (c, k))) (fun h => h) (R := 0 + 1) (plan_over s m (cellAt c k)))
  isplitr
  · iapply (known_inv s m K c k); iexact Hk
  iexact Hat

set_option maxHeartbeats 1600000 in
/-- The kernel's operations in order, from `before` to `after`. -/
theorem run_body (hm : Follows s m) (c : Dev nD) :
    before s m c ⊢ wp frame (wpE (defs₀ (F := F)) Variants.none c none) Set.univ
      (cc0_body piM (Memref.isWhole_whole _) xM (Memref.isWhole_whole _) outM (Memref.isWhole_whole _)
        commM (Memref.isWhole_whole _) cc0_scratch1 cc0_scratch2) (fun _ => after s m c) := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret,
    Prog.bind_assoc, wp_deviceId]
  unfold before entry₀ part due
  iintro ⟨⟨⟨⟨%K, #Hk, ⟨Hat0, Hat1, Hat2⟩, Ht0, Ht1, Ht2⟩, ⟨Hc0, Hc2⟩, #Hlev⟩, ⟨%f3, Hcomm⟩⟩, Ho, ⟨%d0, %g0, %hg0, Hpi⟩,
    ⟨%d1, %g1, %hg1, Hx⟩, ⟨%d2, %g2, %hg2, Hout⟩⟩
  have hpi : g0 = piOf m c := by rw [hg0]; unfold Dat.before; rw [if_pos (fetch0_0 pt)]; rfl
  have hx : g1 = xOf m c := by rw [hg1]; unfold Dat.before; rw [if_pos (fetch0_1 pt)]; rfl
  subst hpi hx
  unfold Dat.owesAt Pipeline.owesWithin
  icases Ho with ⟨%W, %hW, Ho⟩
  rw [show (dats s m 0 c).owed pt.castSucc = debt s c from rfl]
  -- the table's entry at the device's row
  iapply (wp_load_rect Variants.none (c : Thread nD τ) none Set.univ (m := piM) (r := piRect c) (Finset.subset_univ _)) $$ Hpi
  iintro Hpi
  simp only [wp_assume_of _ _ _ _ (d := k0_chk1.dec _ _) (word_names s m hm c), signals_mate c]
  -- the mate's door is paid: the result block is lent where the rows are exchanged
  ihave Hown := (show (((c : Thread nD τ).loc cc0_stg2_0) ↦{fullShare} g2 : sProp 𝕄) ⊢ iprop(lent s (mate c) ∗ kept s c) from by
    rw [← holdsOut_eq]; exact (exists_intro (Φ := fun f => holdsOut c f) g2).trans (lend s c)) $$ Hout
  icases Hown with ⟨Hlent, Hkept⟩
  unfold debt
  iapply (Rounds.wp_signal Variants.none exch (plan s m) (c : Thread nD τ) none (dst := (mate c : Thread nD τ)) (κ := K (mate c, 0))
      (d := ()) (plan_mem s m (mate c) 0) ((plan_amount s m (mate c) 0).trans (by decide)) ()
      (tallyAt (cellAt (goal s c) 2) () (units 2)) rfl) $$ [Ho Ht0 Hlent]
  · isplitr; · iapply (known_inv s m K (mate c) 0); iexact Hk
    isplitl [Ho]; · iexact Ho
    isplitl [Ht0]; · iexact Ht0
    isplitl [Hlent]; · iapply (show lent s (mate c) ⊢ _ from Entails.of_eq (plan_payload s m (mate c) 0).symm); iexact Hlent
    iapply (known_reached s m K (mate c) 0); iexact Hk
  iintro Ho
  -- the block is packed into the scratch block
  iapply (wp_load Variants.none (c : Thread nD τ) none Set.univ (m := xM) (Finset.subset_univ _)) $$ Hx; iintro Hx
  rw [read_x]
  ihave Hcomm := (Entails.of_eq (holdsComm_eq c f3)) $$ Hcomm
  iapply (wp_load Variants.none (c : Thread nD τ) none Set.univ (m := commM) (Finset.subset_univ _)) $$ Hcomm; iintro Hcomm
  iapply (wp_store Variants.none (c : Thread nD τ) none Set.univ (m := commM) (r := commRect) (Mk := Finset.univ)
    (Finset.subset_univ _)) $$ Hcomm
  iintro Hcomm
  rw [write_comm]
  ihave Hcomm := (show (((commM.access commRect).loc (c : Thread nD τ)) ↦{fullShare} k0_pay1 (xOf m c) : sProp 𝕄)
    ⊢ holdsComm c (packed m c) from Entails.of_eq (holdsComm_eq c (packed m c)).symm) $$ Hcomm
  -- the door opens: the result block of the device sent to is in hand
  iapply (Rounds.wp_wait_rest_token Variants.none exch (plan s m) (c : Thread nD τ) none (κ := K (c, 0))
      (wpE_semWait_eq Variants.none (c : Thread nD τ) none Set.univ) (Set.mem_univ _) ()
      (O := tallyAt (cellAt (goal s c) 2) () (units 2)) (W := W) (R := 0) (m := 0) (T := ∅)
      ((Nat.zero_add _).trans (plan_expect s m c 0).symm)) $$ [Hc0 Ho Hat0]
  · isplitr; · iapply (known_inv s m K c 0); iexact Hk
    isplitl [Hc0]; · iexact Hc0
    isplitl [Ho]; · iexact Ho
    isplitr; · iapply (may_wait_door s c); iexact Hlev
    iexact Hat0
  iintro ⟨Ho, Hat0, -, Hlent⟩
  ihave Hlent := (Entails.of_eq (plan_rest s m c 0)) $$ Hlent
  ihave Hgoal := (show iprop(brings s m c 0 ∗ kept s c) ⊢ iprop(∃ f, holdsOut (goal s c) f) from borrow s c) $$ [Hlent Hkept]
  · isplitl [Hlent] <;> iassumption
  icases Hgoal with ⟨%f, Hgoal⟩
  -- the transfer
  iapply (wp_transfer s m K c _ (named s c _ (word_read s m hm c) (word_names s m hm c)) f (insert (semOf 0, ()) W)) $$ [Hcomm Hgoal Ho Ht1 Ht2]
  · isplitr; · iapply (known_inv s m K c 1); iexact Hk
    isplitr; · iapply (known_inv s m K (goal s c) 2); iexact Hk
    isplitl [Hcomm]; · iexact Hcomm
    isplitl [Hgoal]; · iexact Hgoal
    isplitl [Ho]; · iexact Ho
    isplitl [Ht1]; · iexact Ht1
    isplitr; · iapply (known_reached s m K c 1); iexact Hk
    isplitl [Ht2]; · iexact Ht2
    iapply (known_reached s m K (goal s c) 2); iexact Hk
  iintro ⟨Hc1, Ho⟩
  -- the block has left: the scratch block is back
  iapply (Rounds.wp_wait_rest_token Variants.none exch (plan s m) (c : Thread nD τ) none (κ := K (c, 1))
      (wpE_waitDma2_eq Variants.none (c : Thread nD τ) none Set.univ) (Set.mem_univ _) () (O := 0) (W := insert (semOf 0, ()) W)
      (R := 0) (m := 0) (T := ∅) ((Nat.zero_add _).trans (plan_expect s m c 1).symm)) $$ [Hc1 Ho Hat1]
  · isplitr; · iapply (known_inv s m K c 1); iexact Hk
    isplitl [Hc1]; · iexact Hc1
    isplitl [Ho]; · iexact Ho
    isplitr; · rw [MayWait_zero]; iempintro
    iexact Hat1
  iintro ⟨Ho, Hat1, -, Hcomm⟩
  ihave Hcomm := (Entails.of_eq ((plan_rest s m c 1).trans (show brings s m c 1 = holdsComm c (packed m c) from rfl))) $$ Hcomm
  -- a block has come: it is in the result block
  iapply (Rounds.wp_wait_rest_token Variants.none exch (plan s m) (c : Thread nD τ) none (κ := K (c, 2))
      (wpE_waitDma2_eq Variants.none (c : Thread nD τ) none Set.univ) (Set.mem_univ _) () (O := 0)
      (W := insert (semOf 1, ()) (insert (semOf 0, ()) W))
      (R := 0) (m := 0) (T := ∅) ((Nat.zero_add _).trans (landM_credit.trans (plan_expect s m c 2).symm))) $$ [Hc2 Ho Hat2]
  · isplitr; · iapply (known_inv s m K c 2); iexact Hk
    isplitl [Hc2]; · iexact Hc2
    isplitl [Ho]; · iexact Ho
    isplitr; · rw [MayWait_zero]; iempintro
    iexact Hat2
  iintro ⟨Ho, Hat2, -, Hout⟩
  ihave Hout := (Entails.of_eq ((plan_rest s m c 2).trans (holdsOut_eq c (outOf s m c)))) $$ Hout
  -- the cells close
  imod (close_cell s m K c 0) $$ [Hat0] with Hz0
  · isplitr; · iexact Hk
    iexact Hat0
  imod (close_cell s m K c 1) $$ [Hat1] with Hz1
  · isplitr; · iexact Hk
    iexact Hat1
  imod (close_cell s m K c 2) $$ [Hat2] with Hz2
  · isplitr; · iexact Hk
    iexact Hat2
  rw [wp_ret]; imodintro
  unfold after closed Dat.owesAt Pipeline.owesWithin
  rw [show (dats s m 0 c).owed pt.succ = 0 from rfl]
  isplitl [Hcomm Hz0 Hz1 Hz2]
  · isplitl [Hcomm]; · iexact Hcomm
    isplitl [Hz0]; · iexact Hz0
    isplitl [Hz1] <;> iassumption
  isplitl [Ho]
  · iexists (insert (semOf 2, ()) (insert (semOf 1, ()) (insert (semOf 0, ()) W)))
    isplitr; · ipureintro; exact fun _ _ => Or.inl trivial
    iexact Ho
  isplitl [Hpi]
  · iexists _; isplitr; · (ipureintro; rfl)
    iexact Hpi
  isplitl [Hx]
  · iexists _; isplitr; · (ipureintro; rfl)
    iexact Hx
  iexists _; isplitr; · (ipureintro; rfl)
  iexact Hout

end Cert.Permute

end
-- ==== Proof.Start.lean ====
/-
# From the launch to the run of all devices

The launch hands each device its semaphores at zero and the credit the others' debts are worth. The cells' invariants are
set up for all devices at once, the payment rights are passed to the devices that make the payments, and the kernel then
runs on every device. The run's statement holds at any float values.
-/
module

public import proofs.«01_k».proof.Proof.Body
public import Idealize.ShloMosaic.Lib.Pipeline.CollectiveSegs

@[expose] public section

noncomputable section

namespace Cert.Permute

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (s : Bool) (m : (ℓ : Loc nD τ sig) → Buf (Elt F) ℓ)

/-- The kernel's body meets what the staging pipeline asks of it. -/
theorem body_meets (hm : Follows s m) (c : Dev nD) :
    BodyObligation (dats (F := F) s m 0 c) (defs₀ (F := F)) Variants.none () Set.univ := fun t => by
  rw [fin_N0 t, bigSep_W0, bigSep_W0]
  simp only [owns_buffer]
  exact run_body s m hm c

/-! ## Setting the exchange up -/

theorem bigSep_three {M : Type} [URA M] (Φ : Fin 3 → sProp M) : bigSep Finset.univ Φ = iprop(Φ 0 ∗ Φ 1 ∗ Φ 2) :=
  bigSep_univ_eq_bigSepL [0, 1, 2] (by decide) (by decide) Φ

/-- A cell of the exchange, named by its device and kind. -/
def cellEmb : Dev nD × Fin 3 ↪ GSem nD τ sig :=
  ⟨fun ck => cellAt ck.1 ck.2, fun a b h => Prod.ext (cellAt_inj h).1 (cellAt_inj h).2⟩

/-- A cell's one payment. -/
def payEmb : Dev nD × Fin 3 ↪ GSem nD τ sig × ℕ × Unit :=
  ⟨fun ck => (cellAt ck.1 ck.2, 0, ()), fun a b h => cellEmb.injective (congrArg Prod.fst h)⟩

/-- The ghost state at launch: the staging pipeline's cells and the exchange's, each with its payment rights. -/
def ghost₀ : Ghost :=
  (initOf (Pipeline.cells cfgs cellOf_inj) (Pipeline.launchToks cfgs cellOf_inj),
    initOf (Finset.univ.map cellEmb) (Finset.univ.map payEmb))

/-- What device `c` is dealt for its cell of kind `k`: the cell's state, its place, and the right to pay it. -/
def dealt (c : Dev nD) (k : Fin 3) : sProp 𝕄 :=
  iprop(roundState exch (plan s m) (cellAt c k) 0 ∗ (atPos exch (cellAt c k) 0 ∅ 0 ∗ reached exch (cellAt c k) 0)
    ∗ dutyTok exch (cellAt c k) 0 ())

theorem deal : BI.own (exch (initOf (Finset.univ.map cellEmb) (Finset.univ.map payEmb)))
    ⊢ (|==> bigSep Finset.univ fun c : Dev nD => bigSep Finset.univ fun k : Fin 3 => dealt s m c k : sProp 𝕄) := by
  refine (Rounds.fund exch (plan s m) _ _).trans (BI.bupd_mono ?_)
  rw [bigSep_map, bigSep_map, bigSep_map, bigSep_map, ← bigSep_univ_prod (fun ck : Dev nD × Fin 3 => dealt s m ck.1 ck.2)]
  unfold dealt
  rw [bigSep_sep', bigSep_sep', bigSep_sep']
  show _ ⊢ (_ : sProp 𝕄)
  iintro ⟨H1, H2, H3, H4⟩
  isplitl [H1]; · iexact H1
  isplitl [H2 H3]
  · isplitl [H3]; · iexact H3
    iexact H2
  iexact H4

/-- The kernel's own semaphores: sent and came. -/
abbrev ownSem : Fin 2 → SemLoc sig
  | 0 => semOf 1
  | 1 => semOf 2

theorem ownSem_facts : Pipeline.OwnSemFacts cfg0.spec ownSem := by decide

omit [FloatOps F] in
theorem own_sems (c : Dev nD) : (Pipeline.ownSems0 (Ix := Unit) (Name := ℕ) (U := Ghost) (Lvl := ℕ) (Val := Elt F) (τ := τ) ownSem c : sProp 𝕄)
    = iprop(semVal (cellAt c 1) 0 ∗ semVal (cellAt c 2) 0) := by
  rw [Pipeline.ownSems0_eq_of_list c ownSem [0, 1] (by decide) (by decide)]; rfl

omit [FloatOps F] in
/-- The runtime's: the door. -/
theorem door_sem (c : Dev nD) : (unscopedSems0 c : sProp 𝕄) = semVal (cellAt c 0) 0 := by
  unfold unscopedSems0; rw [bigSep_eq_bigSepL_of_eq [semOf 0] (by decide) (by decide)]; rfl

omit [FloatOps F] in
theorem all_sems (c : Dev nD) :
    iprop(Pipeline.ownSems0 (Ix := Unit) (Name := ℕ) (U := Ghost) (Lvl := ℕ) (Val := Elt F) (τ := τ) ownSem c ∗ unscopedSems0 c)
      ⊢ (bigSep Finset.univ fun k : Fin 3 => semVal (cellAt c k) 0 : sProp 𝕄) := by
  rw [own_sems, door_sem, bigSep_three]
  exact Laws.sep_comm.1

/-- A cell opened for the exchange: its invariant under some name, its place and first-round mark, the right to pay it. -/
def opened (ck : Dev nD × Fin 3) : sProp 𝕄 :=
  iprop((∃ κ : ℕ, cellInv exch (plan s m) κ (cellAt ck.1 ck.2))
    ∗ (atPos exch (cellAt ck.1 ck.2) 0 ∅ 0 ∗ reached exch (cellAt ck.1 ck.2) 0) ∗ dutyTok exch (cellAt ck.1 ck.2) 0 ())

theorem open_cell (ck : Dev nD × Fin 3) :
    (iprop(semVal (cellAt ck.1 ck.2) 0 ∗ dealt s m ck.1 ck.2) : sProp 𝕄) ⊢ |={Set.univ}=> opened s m ck := by
  unfold dealt opened
  iintro ⟨Hv, Hst, Hrest⟩
  imod ((Rounds.body_intro exch (plan s m) (cellAt ck.1 ck.2)).trans (inv_alloc (E := Set.univ))) $$ [Hv Hst] with Hinv
  · isplitl [Hv] <;> iassumption
  imodintro
  isplitl [Hinv]; · iexact Hinv
  iexact Hrest

omit [FloatOps F] in
/-- The payment rights passed to the payers: a door's to the mate, a came cell's to the device that sends to it. -/
theorem pass_rights :
    (bigSep Finset.univ fun ck : Dev nD × Fin 3 => iprop(atPos exch (cellAt ck.1 ck.2) 0 ∅ 0 ∗ dutyTok exch (cellAt ck.1 ck.2) 0 ()) : sProp 𝕄)
      ⊢ bigSep Finset.univ fun c => part s c := by
  unfold part
  rw [bigSep_univ_prod]
  simp only [bigSep_three]
  simp only [bigSep_sep']
  rw [bigSep_univ_equiv mates (fun c : Dev nD => (dutyTok exch (cellAt c 0) 0 () : sProp 𝕄)),
    bigSep_univ_equiv (goals s) (fun c : Dev nD => (dutyTok exch (cellAt c 2) 0 () : sProp 𝕄))]
  iintro ⟨⟨Ha0, Ht0⟩, ⟨Ha1, Ht1⟩, Ha2, Ht2⟩
  isplitl [Ha0 Ha1 Ha2]
  · isplitl [Ha0]; · iexact Ha0
    isplitl [Ha1] <;> iassumption
  isplitl [Ht0]; · iexact Ht0
  isplitl [Ht1]; · iexact Ht1
  iexact Ht2

/-- What device `c` has of the exchange once it is set up. -/
def share (c : Dev nD) : sProp 𝕄 := iprop(∃ K, known s m K ∗ part s c)

/-- All cells opened are every device's share. -/
theorem share_out : bigSep Finset.univ (opened s m) ⊢ (bigSep Finset.univ fun c => share s m c : sProp 𝕄) := by
  unfold opened
  simp only [bigSep_sep']
  iintro ⟨Hinv, ⟨Hat, #Hr⟩, Ht⟩
  ihave HK := (BI.bigSep_exists_pi Finset.univ (fun (ck : Dev nD × Fin 3) (κ : ℕ) => (cellInv exch (plan s m) κ (cellAt ck.1 ck.2) : sProp 𝕄))) $$ Hinv
  icases HK with ⟨%K, #HI⟩
  ihave Hpart := (pass_rights (F := F) s) $$ [Hat Ht]
  · rw [bigSep_sep']
    isplitl [Hat] <;> iassumption
  have hall : iprop(known s m K ∗ bigSep Finset.univ fun c : Dev nD => part s c) ⊢ (bigSep Finset.univ fun c => share s m c : sProp 𝕄) :=
    (sep_mono_left (BI.bigSep_of_persistent Finset.univ (known s m K))).trans (by
      rw [← bigSep_sep']
      exact bigSep_mono fun c _ => exists_intro (Φ := fun K => iprop(known s m K ∗ part s c)) K)
  iapply hall
  isplitr
  · unfold known
    isplitl; · iexact HI
    iexact Hr
  iexact Hpart

/-- The launch's semaphores and what was dealt, of all devices together, become every device's share. -/
theorem set_up :
    (bigSep Finset.univ fun c => iprop(Pipeline.ownSems0 (Ix := Unit) (Name := ℕ) (U := Ghost) (Lvl := ℕ) (Val := Elt F) (τ := τ) ownSem c
        ∗ unscopedSems0 c ∗ bigSep Finset.univ fun k : Fin 3 => dealt s m c k) : sProp 𝕄)
      ⊢ |={Set.univ}=> bigSep Finset.univ fun c => share s m c := by
  have hdev (c : Dev nD) : iprop(Pipeline.ownSems0 (Ix := Unit) (Name := ℕ) (U := Ghost) (Lvl := ℕ) (Val := Elt F) (τ := τ) ownSem c
      ∗ unscopedSems0 c ∗ bigSep Finset.univ fun k : Fin 3 => dealt s m c k)
        ⊢ (bigSep Finset.univ fun k : Fin 3 => iprop(semVal (cellAt c k) 0 ∗ dealt s m c k) : sProp 𝕄) := by
    rw [bigSep_sep']
    exact Laws.sep_assoc.2.trans (sep_mono_left (all_sems c))
  refine (bigSep_mono fun c _ => hdev c).trans ?_
  rw [← bigSep_univ_prod (fun ck : Dev nD × Fin 3 => (iprop(semVal (cellAt ck.1 ck.2) 0 ∗ dealt s m ck.1 ck.2) : sProp 𝕄))]
  exact ((bigSep_mono fun ck _ => open_cell s m ck).trans (bigSep_fupd _ _)).trans (BI.fupd_mono (share_out s m))

/-! ## The credit the debts are worth -/

/-- A debt of device `d` to the cell of kind `k` of the device `e` sends `d` to, read at the cell of kind `k'` of device `c`. -/
theorem debt_at (e : Dev nD ≃ Dev nD) (d c : Dev nD) (k k' : Fin 3) (n : ℕ) :
    (tallyAt (cellAt (e d) k) () n : CellTallies nD τ sig Unit) (cellAt c k') () = if k = k' ∧ d = e.symm c then n else 0 := by
  rw [tallyAt_apply]
  refine if_congr ⟨fun h => ?_, fun h => ⟨?_, rfl⟩⟩ rfl rfl
  · obtain ⟨hc, hk⟩ := cellAt_inj h.1
    exact ⟨hk.symm, by rw [hc, Equiv.symm_apply_apply]⟩
  · rw [h.1, h.2, Equiv.apply_symm_apply]

theorem debt_door (d c : Dev nD) : debt s d (cellAt c 0) () = if d = mate c then units 0 else 0 := by
  unfold debt
  rw [Pi.add_apply, Finsupp.add_apply]
  rw [show tallyAt (cellAt (goal s d) 2) () (units 2) (cellAt c 0) () = 0 from
      (debt_at (goals s) d c 2 0 _).trans (if_neg fun h => absurd h.1 (by decide)), Nat.zero_add]
  exact (debt_at mates d c 0 0 _).trans (if_congr ⟨fun h => h.2, fun h => ⟨rfl, h⟩⟩ rfl rfl)

theorem debt_came (d c : Dev nD) : debt s d (cellAt c 2) () = if d = goal s c then units 2 else 0 := by
  unfold debt
  rw [Pi.add_apply, Finsupp.add_apply]
  rw [show tallyAt (cellAt (mate d) 0) () (units 0) (cellAt c 2) () = 0 from
      (debt_at mates d c 0 2 _).trans (if_neg fun h => absurd h.1 (by decide)), Nat.add_zero]
  exact (debt_at (goals s) d c 2 2 _).trans (if_congr ⟨fun h => h.2, fun h => ⟨rfl, h⟩⟩ rfl rfl)

/-- A cell that one device owes is credited with that debt. -/
theorem credited (g : GSem nD τ sig) (o : Dev nD) (n : ℕ) (h : ∀ d, debt s d g () = if d = o then n else 0) :
    tallyOn g (launchCredit (Pipeline.owing (debt s)) 0 g) = (tallyAt g () n : CellTallies nD τ sig Unit) := by
  unfold tallyAt
  refine congrArg _ (Finsupp.ext fun u => ?_)
  rw [Pipeline.launchCredit_owing, Finsupp.single_eq_same, Finset.sum_congr rfl fun d _ => h d, Finset.sum_ite_eq' Finset.univ o fun _ => n,
    if_pos (Finset.mem_univ _)]

omit [FloatOps F] in
theorem launch_due (c : Dev nD) : (Pipeline.launchCred (debt s) c : sProp 𝕄) ⊢ due c := by
  unfold Pipeline.launchCred due
  rw [bigSep_univ_at _ (semOf 0), credited s (cellAt c 0) (mate c) _ fun d => debt_door s d c]
  refine sep_mono_right ?_
  rw [← credited s (cellAt c 2) (goal s c) _ fun d => debt_came s d c]
  exact bigSep_elim (Finset.mem_erase.mpr ⟨fun h => absurd (@semOf_injective 2 0 h) (by decide), Finset.mem_univ _⟩)

/-! ## Entering and leaving the kernel -/

theorem enter (ρ : Dev nD → PrngReg) (c : Dev nD) :
    iprop(Pipeline.unscopedRestP Pipeline.Prefetch.none cfg0.spec c (fun b => m ((c : Thread nD τ).loc b)) ∗ levAts tracked height
        ∗ Pipeline.launchCred (debt s) c ∗ prngReg c (ρ c) ∗ share s m c)
      ⊢ |={Set.univ}=> iprop(entry₀ s m c ∗ emp) := by
  iintro ⟨-, Hlev, Hcred, -, Hshare⟩
  ihave Hdue := (launch_due (F := F) s c) $$ Hcred
  imodintro
  unfold entry₀ share
  isplitl
  · isplitl [Hshare]; · iexact Hshare
    isplitl [Hdue] <;> iassumption
  · iempintro

theorem begin_point (c : Dev nD) :
    iprop(entry₀ s m c ∗ Pipeline.prefHeld Pipeline.Prefetch.none c (fun _ => fullShare.right) (fun k => k.elim0) ∗ Pipeline.scopedRest cfg0.spec c)
      ⊢ (dats s m 0 c).Φ 0 := by
  rw [show (dats s m 0 c).Φ 0 = iprop(entry₀ s m c ∗ ∃ f, holdsComm c f) from rfl, scopedRest0_eq]
  iintro ⟨He, -, ⟨%f, Hcomm⟩⟩
  isplitl [He]; · iexact He
  iexists f
  rw [holdsComm_eq]
  iexact Hcomm

theorem end_point (c : Dev nD) :
    (dats s m 0 c).Φ (Fin.last cfg0.N) ⊢ iprop(unscopedSems0 c ∗ Pipeline.ownSems0 ownSem c ∗ Pipeline.scopedRest cfg0.spec c) := by
  rw [show (dats s m 0 c).Φ (Fin.last cfg0.N) = iprop(holdsComm c (packed m c) ∗ closed c) from rfl, scopedRest0_eq, own_sems, door_sem]
  unfold closed
  iintro ⟨Hcomm, Hz0, Hz12⟩
  isplitl [Hz0]; · iexact Hz0
  isplitl [Hz12]; · iexact Hz12
  iexists (packed m c)
  rw [← holdsComm_eq]
  iexact Hcomm

theorem staging_waits (c : Dev nD) : (levAts tracked height : sProp 𝕄) ⊢ Pipeline.cellsWaits cfgs (dats s m) () 0 c :=
  Pipeline.cellsWaits_intro cfgs (dats s m) () 0 c fun w b t =>
    may_wait_staging s c _ (by fin_cases w <;> fin_cases b <;> decide) _ (by
      rcases t with ⟨_ | _, ht⟩
      · exact Or.inl rfl
      · exact Or.inr rfl)

/-! ## The run -/

/-- The arrays of a final state, as the pipeline's data compute them. -/
def Computed (r : PUnit × MemSt nD τ sig (Elt F)) : Prop :=
  ∀ (c : Dev nD) (w : Fin cfg0.W), r.2.mem ((cfg0.win w).arr.view.loc (c : Thread nD τ)) = (dats s m 0 c).arrAt w cfg0.N

set_option maxRecDepth 8000 in
/-- The launch: with every device's table `s`, every execution from zero counters ends, with each device's arrays as
    computed and every counter at zero. -/
theorem run_computed (hm : Follows s m) (ρ : Dev nD → PrngReg) :
    θ_run defs (onTc (τ := τ) (main (F := F))) ⟨m, fun _ => 0, ρ⟩ (fun r => Computed s m r ∧ r.2.sem = fun _ => 0) :=
  Pipeline.θ_run_region_owing_glob_pf (fun p => (cfgs p).toPCfg) (fun p => (cfgs p).toPCfg_adm) (dats s m) () cellOf_inj (0 : Fin 1)
    winFacts0.to₀ ownSem_facts (Pipeline.PreFacts.none _) staging defs₀ Variants.none m ρ main
    (hmain := fun _ => rfl)
    (hbody := body_meets s m hm) (hne := block_pos0) (harr := arr_whole0) (hstage := stage_whole0)
    (hshare := fun c w => by unfold Dat.share; split <;> rfl)
    (hdistinct := winFacts0.arr_inj)
    (O₀ := debt s) (howed₀ := fun _ => rfl) (howedN := fun _ => rfl)
    (L := tracked) (lv := height) (hL := tracked_off) (hwaits := staging_waits s m)
    (G := fun c => bigSep Finset.univ fun k : Fin 3 => dealt s m c k) (G' := share s m) (u₀ := ghost₀)
    (hu₀ := by
      unfold ghost₀
      iintro Hu
      ihave H := (ownU_pair _ _) $$ Hu
      icases H with ⟨HP, HX⟩
      imod (deal s m) $$ HX with HG
      imodintro
      isplitl [HP] <;> iassumption)
    (hglob := set_up s m)
    (hA := fun _ _ => rfl) (hpf := fun _ k => k.elim0)
    (X := entry₀ s m) (Y := fun c => unscopedSems0 c) (Z := fun _ => iprop(emp))
    (hX := enter s m ρ) (hin := begin_point s m) (hout := end_point s m)
    (QY := fun c st => ∀ q : SemLoc sig, q.isScoped .tc = false → st.sem ((c.tc : Thread nD τ), q) = 0)
    (hY := fun c st => by
      iintro ⟨Hu, -, HSI⟩
      iapply (Pipeline.unscopedSems0_read (X := unscopedSems0 c) (c := c) fupd_intro st)
      isplitl [Hu] <;> iassumption)
    (hQ := fun _ h hs => ⟨fun c w => (h c).1 w, sem_eq_zero hs fun c => (h c).2.2⟩)

/-! ## The arrays at the end -/

theorem x_kept (c : Dev nD) : (dats s m 0 c).arrAt (1 : Fin 3) cfg0.N = m ((c : Thread nD τ).loc main_arg0) :=
  (dats s m 0 c).arrAt_in (1 : Fin 3) rfl _

theorem pi_kept (c : Dev nD) : (dats s m 0 c).arrAt (0 : Fin 3) cfg0.N = m ((c : Thread nD τ).loc main_arg1) :=
  (dats s m 0 c).arrAt_in (0 : Fin 3) rfl _

/-- What device `c`'s result array ends holding: the block of `x` of the device that sends to it. -/
def received (c : Dev nD) : Buf (Elt F) ((c : Thread nD τ).loc main_v1) := (m ((goal s c : Thread nD τ).loc main_arg0) : FVec F S1x256x256 .bf16)

theorem result_covered (i : S1x256x256.Idx) :
    ∃ t : Fin cfg0.N, (cfg0.win 2).flush t = true ∧ i ∈ ((cfg0.win 2).blk t).view.set := by
  refine ⟨pt, flush0_2 _, ?_⟩
  show i ∈ ((View.whole main_v1).slice (win0_2.rect pt)).set
  rw [View.set_slice_whole, Rect.mem_set_unit]
  have e : ∀ a, win0_2.index pt a * win0_2.size a = 0 ∧ win0_2.xsize (grid0.coords pt) a = S1x256x256.size a := by decide +kernel
  intro a
  show win0_2.index pt a * win0_2.size a ≤ (i a : Nat) ∧ (i a : Nat) < win0_2.index pt a * win0_2.size a + win0_2.xsize (grid0.coords pt) a
  rw [(e a).1, (e a).2]
  exact ⟨Nat.zero_le _, by rw [Nat.zero_add]; exact (i a).isLt⟩

theorem result_received (c : Dev nD) : (dats s m 0 c).arrAt (2 : Fin 3) cfg0.N = received s m c :=
  (dats s m 0 c).arrAt_eq_of_cover 2 (received s m c) (fun t _ => by rw [fin_N0 t]; rfl) result_covered

/-- The run read at the arrays: with every device's table `s`, every execution ends, each device's result is the block of
    `x` of the device that sends to it, the arguments are as they were and every counter is at zero. -/
theorem run (hm : Follows s m) (ρ : Dev nD → PrngReg) :
    θ_run defs (onTc (τ := τ) (main (F := F))) ⟨m, fun _ => 0, ρ⟩ (fun r => (∀ c : Dev nD,
      r.2.mem ((c : Thread nD τ).loc main_v1) = received s m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => ⟨(h.1 c 2).trans (result_received s m c), (h.1 c 1).trans (x_kept s m c),
    (h.1 c 0).trans (pi_kept s m c)⟩, h.2⟩) (run_computed s m hm ρ)

end Cert.Permute

end
-- ==== Proof.Rows.lean ====
/-
# The reference's rows

The reference takes the rows of `x` in the order in which a stable sort of the table `pi` puts its positions. A table of
two rows that is a permutation is its own inverse, so that order is the table itself. A block of the rows in that order
is the block of `x` that the kernel's device receives.
-/
module

public import proofs.«01_k».proof.Proof.Start
public import proofs.«01_k».proof.Proof.Gen.ReferenceIdeal.Run
public import proofs.«01_k».proof.Proof.Gen.ReferenceWords.Run
public import proofs.«01_k».proof.Proof.Gen.Pre_swap_Kernel
public import proofs.«01_k».proof.Proof.Gen.Pre_stay_Kernel

@[expose] public section

noncomputable section

namespace Cert.Permute

open Idealize.ShloMosaic Idealize.ShloMosaic.TcCoe
open Cert.ReferenceIdeal (S_ S2 S2x1 S2x256x256)
open Cert.ReferenceIdeal.Gen (bcast_S_S2 bcast_S2_S2x1_0)

variable {α : Type} (s : Bool)

/-! ## The order of the positions -/

/-- The table `s` as the vector `pi`. -/
def table : IVec S2 32 := fun i => entry s (i 0).val

/-- The positions of a vector of two words in the order of a stable sort of the words. -/
def order (p : IVec S2 32) : IVec S2 32 :=
  (Host.sort2 S2 0 Cert.ReferenceIdeal.comparator_i32_i32_d0 p (iotaInDim S2 32 0)).2

/-- Those positions as a column of row numbers, a negative one counted from the end. -/
def column (p : IVec S2 32) : IVec S2x1 32 :=
  broadcastInDim S2x1 ![0] bcast_S2_S2x1_0
    (select (cmpi .slt (order p) (broadcastInDim S2 ![] bcast_S_S2 (constantI S_ 32 0#32)))
      (addi (order p) (broadcastInDim S2 ![] bcast_S_S2 (constantI S_ 32 2#32))) (order p))

/-- The rows of `x` whose numbers the column holds. -/
def rows (x : S2x256x256.Idx → α) (p : IVec S2 32) : S2x256x256.Idx → α :=
  Host.gather Cert.ReferenceIdeal.gather_S2x256x256_S2x1_S2x256x256_12_0_n_n_0_1_1256256 x (column p)

/-- Sorting the table's words puts the positions in the table's own order. -/
theorem order_table : order (table s) = table s := by
  revert s; decide +kernel

/-- The column's row number at a position is the table's entry, -/
theorem column_table (i : S2x1.Idx) : column (table s) i = entry s (i 0).val := by
  revert s i
  unfold column
  simp only [order_table]
  decide +kernel

/-- which is one of the two rows. -/
theorem entry_row (k : Fin 2) : min (entry s k.val).toInt.toNat (2 - 1) = (bif s then k.rev else k).val := by
  revert s k; decide

/-! ## The rows in that order -/

/-- The index whose row the table names, the other coordinates kept. -/
def moved (j : S2x256x256.Idx) : S2x256x256.Idx := Function.update j 0 (bif s then (j 0).rev else j 0)

/-- How the reference takes rows. -/
abbrev taking : GatherDims S2x256x256 S2x1 S2x256x256 :=
  Cert.ReferenceIdeal.gather_S2x256x256_S2x1_S2x256x256_12_0_n_n_0_1_1256256

/-- The row an index reads: the table's entry at the index's own row. -/
theorem taking_row (j : S2x256x256.Idx) : taking.start j (column (table s)) 0 = (moved s j 0).val := by
  have hm : (0 : Fin S2x256x256.rank) ∈ taking.startIndexMap := List.mem_singleton.mpr rfl
  unfold GatherDims.start
  rw [dif_pos hm, column_table, moved, Function.update_self]
  exact entry_row s (j 0)

/-- The rows of `x` in the table's order, at an index. -/
theorem rows_table (x : S2x256x256.Idx → α) : rows x (table s) = fun j => x (moved s j) := by
  funext j
  refine congrArg x (funext fun a => Fin.ext ?_)
  show taking.start j (column (table s)) a + taking.batchCoord j a + taking.offCoord j a = _
  rw [taking.batchCoord_eq_zero j a List.not_mem_nil, Nat.add_zero]
  match a with
  | ⟨0, _⟩ =>
    exact (congrArg (taking.start j (column (table s)) 0 + ·)
      (taking.offCoord_eq_zero j 0 (show (0 : Fin S2x256x256.rank) ∉ taking.sKept by decide))).trans
      ((Nat.add_zero _).trans (taking_row s j))
  | ⟨1, _⟩ =>
    exact (congrArg (· + taking.offCoord j 1)
      (dif_neg (show (1 : Fin S2x256x256.rank) ∉ taking.startIndexMap by decide))).trans (Nat.zero_add _)
  | ⟨2, _⟩ =>
    exact (congrArg (· + taking.offCoord j 2)
      (dif_neg (show (2 : Fin S2x256x256.rank) ∉ taking.startIndexMap by decide))).trans (Nat.zero_add _)

/-! ## The blocks -/

open Cert.KernelIdeal (S1x256x256)

/-- A device's block of an array of two rows. -/
abbrev blockOf (c : Dev Cert.KernelIdeal.nD) (x : S2x256x256.Idx → α) : S1x256x256.Idx → α :=
  Layout.blockN S1x256x256 S2x256x256 (Layout.meshBlock [2, 2] ![[0], [], []] c) x

/-- The row of the mesh a device lies in, as its block's number. -/
abbrev rowOf (c : Dev Cert.KernelIdeal.nD) : ℕ := Layout.meshLin [2, 2] c.val [0]

/-- There are two rows, -/
theorem rowOf_lt (c : Dev Cert.KernelIdeal.nD) : rowOf c < 2 := by revert c; decide +kernel

/-- and a block that changes devices changes rows. -/
theorem rowOf_goal (c : Dev Cert.KernelIdeal.nD) : rowOf (goal s c) = bif s then 1 - rowOf c else rowOf c := by
  revert s c; decide +kernel

/-- The block of `x` that device `goal s c` holds is device `c`'s block of the rows in the table's order. -/
theorem block_goal (c : Dev Cert.KernelIdeal.nD) (x : S2x256x256.Idx → α) :
    blockOf (goal s c) x = blockOf c (rows x (table s)) := by
  rw [rows_table]
  funext i
  refine congrArg x (funext fun a => Fin.ext ?_)
  match a with
  | ⟨0, _⟩ =>
    have hi : (i 0).val = 0 := Nat.lt_one_iff.mp (i 0).isLt
    have hg := rowOf_goal s c
    have hr := rowOf_lt c
    show rowOf (goal s c) * 1 + (i 0).val = (moved s _ 0).val
    rw [moved, Function.update_self, hi, hg]
    cases s
    · show rowOf c * 1 + 0 = rowOf c * 1 + (i 0).val
      omega
    · show (1 - rowOf c) * 1 + 0 = 2 - (rowOf c * 1 + (i 0).val + 1)
      omega
  | ⟨1, _⟩ => rfl
  | ⟨2, _⟩ => rfl

/-! ## The preconditions -/

/-- The position `k` of a vector of two. -/
def place (k : Fin 2) : S2.Idx := fun | ⟨0, _⟩ => k

/-- A vector of two words is the table with the same two entries. -/
theorem table_of (p : IVec S2 32) (h : ∀ k : Fin 2, p (place k) = entry s k.val) : p = table s := by
  funext i
  have e : i = place (i 0) := funext fun | ⟨0, _⟩ => rfl
  exact (congrArg p e).trans (h (i 0))

/-- Two comparisons that hold together, as equations. -/
theorem both (a b u v : BitVec 32) (h : IntOp.andi (IntOp.cmpi .eq a b) (IntOp.cmpi .eq u v) = 1#1) : a = b ∧ u = v := by
  have hb : ∀ p q : Bool, BitVec.ofBool p &&& BitVec.ofBool q = 1#1 → p = true ∧ q = true := by decide
  exact (hb (a == b) (u == v) h).imp eq_of_beq eq_of_beq

variable {F : FTy → Type} [FloatOps F]

/-- Where the predicate for `[1, 0]` holds the vector is that table. -/
theorem swap_table (x : FVec F S1x256x256 .bf16) (p : IVec S2 32)
    (h : Cert.Pre_swap_Kernel.fn (F := F) x p = fun _ => 1#1) : p = table true := by
  have e := both (p (place 0)) (entry true 0) (p (place 1)) (entry true 1) ?_
  · exact table_of true p fun | ⟨0, _⟩ => e.1 | ⟨1, _⟩ => e.2
  · refine Eq.trans ?_ (congrFun h (fun a => a.elim0))
    exact congrArg₂ IntOp.andi (congrArg (IntOp.cmpi .eq · _) (congrArg p (funext fun | ⟨0, _⟩ => Fin.ext rfl)))
      (congrArg (IntOp.cmpi .eq · _) (congrArg p (funext fun | ⟨0, _⟩ => Fin.ext rfl)))

/-- Where the predicate for `[0, 1]` holds the vector is that table. -/
theorem stay_table (x : FVec F S1x256x256 .bf16) (p : IVec S2 32)
    (h : Cert.Pre_stay_Kernel.fn (F := F) x p = fun _ => 1#1) : p = table false := by
  have e := both (p (place 0)) (entry false 0) (p (place 1)) (entry false 1) ?_
  · exact table_of false p fun | ⟨0, _⟩ => e.1 | ⟨1, _⟩ => e.2
  · refine Eq.trans ?_ (congrFun h (fun a => a.elim0))
    exact congrArg₂ IntOp.andi (congrArg (IntOp.cmpi .eq · _) (congrArg p (funext fun | ⟨0, _⟩ => Fin.ext rfl)))
      (congrArg (IntOp.cmpi .eq · _) (congrArg p (funext fun | ⟨0, _⟩ => Fin.ext rfl)))

end Cert.Permute

end
-- ==== Proof.Values.lean ====
/-
# What the kernel and the reference end with

Over an array `X` of two rows, cut in blocks over the devices, and a table `s`, the kernel leaves on each device that
device's block of `X`'s rows in the table's order, and the reference leaves those rows.
-/
module

public import proofs.«01_k».proof.Defs
public import proofs.«01_k».proof.Proof.Rows

@[expose] public section

noncomputable section

namespace Cert.Permute

open Idealize.ShloMosaic Idealize.ShloMosaic.TcCoe Idealize.SL.Sem
open Cert.ReferenceIdeal (S2 S2x256x256)
open Cert.KernelIdeal (S1x256x256)
open Cert.KernelIdeal.Gen

variable {F : FTy → Type} [FloatOps F] (s : Bool)

/-- Where every device's copy of `pi` satisfies the predicate for `[1, 0]`, the launch follows that table. -/
theorem follows_swap (m : (ℓ : Loc Cert.KernelIdeal.nD Cert.KernelIdeal.τ Cert.KernelIdeal.sig) → Buf (Elt F) ℓ)
    (h : ∀ c : Dev Cert.KernelIdeal.nD, Cert.Pre_swap_Kernel.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Follows true m := fun c => swap_table _ _ (h c)

/-- Where every device's copy of `pi` satisfies the predicate for `[0, 1]`, the launch follows that table. -/
theorem follows_stay (m : (ℓ : Loc Cert.KernelIdeal.nD Cert.KernelIdeal.τ Cert.KernelIdeal.sig) → Buf (Elt F) ℓ)
    (h : ∀ c : Dev Cert.KernelIdeal.nD, Cert.Pre_stay_Kernel.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Follows false m := fun c => stay_table _ _ (h c)

/-- The kernel, launched on the blocks of `X`: each device ends with its block of the rows of `X` in the table's order,
    its arguments unchanged. -/
theorem kernel_value (m : (ℓ : Loc Cert.KernelIdeal.nD Cert.KernelIdeal.τ Cert.KernelIdeal.sig) → Buf (Elt F) ℓ)
    (hm : Follows s m) (X : FVec F S2x256x256 .bf16)
    (hX : ∀ c : Dev Cert.KernelIdeal.nD,
      m ((c.tc : Thread Cert.KernelIdeal.nD Cert.KernelIdeal.τ).loc Cert.KernelIdeal.main_arg0) = blockOf c X)
    (ρ : Dev Cert.KernelIdeal.nD → PrngReg) :
    θ_run Cert.KernelIdeal.defs (onTc (τ := Cert.KernelIdeal.τ) (Cert.KernelIdeal.main (F := F))) ⟨m, fun _ => 0, ρ⟩
      fun r => ∀ c : Dev Cert.KernelIdeal.nD,
        r.2.mem ((c.tc : Thread Cert.KernelIdeal.nD Cert.KernelIdeal.τ).loc Cert.KernelIdeal.main_v1)
            = blockOf c (rows X (table s))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1) :=
  (θ_run Cert.KernelIdeal.defs _ _).mono
    (fun _ h c => ⟨(h.1 c).1.trans ((hX (goal s c)).trans (block_goal s c X)), (h.1 c).2⟩) (run s m hm ρ)

/-- The reference at the ideal values, its `pi` the table: it ends with the rows in the table's order — the change to
    float32 and back keeps every value — and its arguments unchanged. -/
theorem ideal_value (m : (ℓ : Loc Cert.ReferenceIdeal.nD Cert.ReferenceIdeal.τ Cert.ReferenceIdeal.sig) → Buf (Elt Ideal) ℓ)
    (X : FVec Ideal S2x256x256 .bf16)
    (hX : m (((0 : Dev Cert.ReferenceIdeal.nD).tc : Thread Cert.ReferenceIdeal.nD Cert.ReferenceIdeal.τ).loc Cert.ReferenceIdeal.main_arg0) = X)
    (hp : m (((0 : Dev Cert.ReferenceIdeal.nD).tc : Thread Cert.ReferenceIdeal.nD Cert.ReferenceIdeal.τ).loc Cert.ReferenceIdeal.main_arg1) = table s)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r =>
        r.2.mem (((0 : Dev Cert.ReferenceIdeal.nD).tc : Thread Cert.ReferenceIdeal.nD Cert.ReferenceIdeal.τ).loc Cert.ReferenceIdeal.main_v9)
            = rows X (table s)
          ∧ r.2.mem (((0 : Dev Cert.ReferenceIdeal.nD).tc : Thread Cert.ReferenceIdeal.nD Cert.ReferenceIdeal.τ).loc Cert.ReferenceIdeal.main_arg0)
            = m (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
            = m (((0 : Dev Cert.ReferenceIdeal.nD).tc : Thread Cert.ReferenceIdeal.nD Cert.ReferenceIdeal.τ).loc Cert.ReferenceIdeal.main_arg1) :=
  (θ_run Cert.ReferenceIdeal.defs _ _).mono (fun _ h => ⟨(h 0).1.trans (congrArg₂ rows hX hp), (h 0).2⟩)
    (Cert.ReferenceIdeal.Value.run (F := Ideal) m ρ)

/-- The reference that moves words and changes no format, its `pi` the table: it ends with the rows in the table's order
    and its arguments unchanged. -/
theorem words_value (m : (ℓ : Loc Cert.ReferenceWords.nD Cert.ReferenceWords.τ Cert.ReferenceWords.sig) → Buf (Elt F) ℓ)
    (X : FVec F S2x256x256 .bf16)
    (hX : m (((0 : Dev Cert.ReferenceWords.nD).tc : Thread Cert.ReferenceWords.nD Cert.ReferenceWords.τ).loc Cert.ReferenceWords.main_arg0) = X)
    (hp : m (((0 : Dev Cert.ReferenceWords.nD).tc : Thread Cert.ReferenceWords.nD Cert.ReferenceWords.τ).loc Cert.ReferenceWords.main_arg1) = table s)
    (ρ : Dev Cert.ReferenceWords.nD → PrngReg) :
    θ_run Cert.ReferenceWords.defs (onTc (τ := Cert.ReferenceWords.τ) (Cert.ReferenceWords.main (F := F))) ⟨m, fun _ => 0, ρ⟩
      fun r =>
        r.2.mem (((0 : Dev Cert.ReferenceWords.nD).tc : Thread Cert.ReferenceWords.nD Cert.ReferenceWords.τ).loc Cert.ReferenceWords.main_v7)
            = rows X (table s)
          ∧ r.2.mem (((0 : Dev Cert.ReferenceWords.nD).tc : Thread Cert.ReferenceWords.nD Cert.ReferenceWords.τ).loc Cert.ReferenceWords.main_arg0)
            = m (((0 : Dev Cert.ReferenceWords.nD).tc : Thread Cert.ReferenceWords.nD Cert.ReferenceWords.τ).loc Cert.ReferenceWords.main_arg0)
          ∧ r.2.mem (((0 : Dev Cert.ReferenceWords.nD).tc : Thread Cert.ReferenceWords.nD Cert.ReferenceWords.τ).loc Cert.ReferenceWords.main_arg1)
            = m (((0 : Dev Cert.ReferenceWords.nD).tc : Thread Cert.ReferenceWords.nD Cert.ReferenceWords.τ).loc Cert.ReferenceWords.main_arg1) :=
  (θ_run Cert.ReferenceWords.defs _ _).mono (fun _ h => ⟨(h 0).1.trans (congrArg₂ rows hX hp), (h 0).2⟩)
    (Cert.ReferenceWords.Value.run (F := F) m ρ)

end Cert.Permute

end
-- ==== Proof.Text.lean ====
/-
# One text, two readings

The kernel and its ideal reading are one program: nothing was replaced. So a run of the one is a run of the other, at any
float values.
-/
module

public import proofs.«01_k».proof.Proof.Values
public import proofs.«01_k».proof.Proof.Gen.Kernel

@[expose] public section

noncomputable section

namespace Cert.Permute

open Idealize.ShloMosaic Idealize.SL.Sem Cert.Kernel.Gen Cert.KernelIdeal.Gen

variable {F : FTy → Type} [FloatOps F]

/-- The two body tables agree. -/
theorem bodies_eq : Cert.Kernel.defs₀ (F := F) = Cert.KernelIdeal.defs₀ := by
  funext pr ℓ a
  cases pr with
  | tc => match ℓ, a with | ⟨0, _⟩, (_, _) => rfl
  | _ => rfl

/-- So do the tables with the pipelines in them. -/
theorem tables_eq : Cert.Kernel.defs (F := F) = Cert.KernelIdeal.defs :=
  congrArg (Pipeline.defs (Cert.KernelIdeal.pcfgs (F := F))) bodies_eq

/-- What holds of every run of the ideal reading's text holds of every run of the kernel's. -/
theorem run_kernel (m : (ℓ : Loc Cert.Kernel.nD Cert.Kernel.τ Cert.Kernel.sig) → Buf (Elt F) ℓ)
    (ρ : Dev Cert.Kernel.nD → PrngReg) (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F)))
      ⟨m, fun _ => 0, ρ⟩ Q) :
    θ_run (Cert.Kernel.defs (F := F)) (onTc (τ := Cert.Kernel.τ) (Cert.Kernel.main (F := F))) ⟨m, fun _ => 0, ρ⟩ Q := by
  rw [tables_eq]
  exact h

end Cert.Permute

end
-- ==== Proof.lean ====
/-
# The claims

The proof of `Cert.Claim`. Each claim about the kernel is stated at two tables, `pi = [1, 0]` and `pi = [0, 1]`: the frame
(the run terminates, the arguments end unchanged and every semaphore counter reads zero), at the bit patterns and at the
ideal values; the frames of the two references; the kernel's ideal reading being the kernel's own text; the result equal to
the reference's over the reals; and the result equal, bit for bit, to the reference that moves words.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceWords
public import proofs.«01_k».proof.Proof.Gen.Pre_swap_Kernel
public import proofs.«01_k».proof.Proof.Gen.Pre_stay_Kernel
public import proofs.«01_k».proof.Proof.Gen.Pre_swap_ReferenceIdeal
public import proofs.«01_k».proof.Proof.Gen.Pre_stay_ReferenceIdeal
public import proofs.«01_k».proof.Proof.Text
public import Idealize.ShloMosaic.Adequacy
public import Idealize.ShloMosaic.Init

@[expose] public section

noncomputable section

namespace Cert.Proof

open Idealize.ShloMosaic Idealize.SL.Sem Cert.Permute

/-! ## The frames of the kernel -/

/-- The kernel at the bit patterns, on a launch that follows a table: it runs, its arguments end unchanged and every
    counter reads zero. Its text is the one the ideal reading has, so the run over any float values is this one too. -/
theorem frame_words (s : Bool)
    (m : (ℓ : Loc Cert.Kernel.nD Cert.Kernel.τ Cert.Kernel.sig) → Buf (Elt Bits) ℓ)
    (hm : Follows (F := Bits) s m) (ρ : Dev Cert.Kernel.nD → PrngReg) :
    θ_run (Cert.Kernel.defs (F := Bits)) (onTc (τ := Cert.Kernel.τ) (Cert.Kernel.main (F := Bits))) ⟨m, fun _ => 0, ρ⟩
      fun r => (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
          ∧ r.2.mem ((c.tc : Thread Cert.Kernel.nD Cert.Kernel.τ).loc Cert.Kernel.main_arg1)
            = m ((c.tc : Thread Cert.Kernel.nD Cert.Kernel.τ).loc Cert.Kernel.main_arg1)) ∧ r.2.sem = fun _ => 0 :=
  run_kernel m ρ _
    ((θ_run Cert.KernelIdeal.defs _ _).mono (fun _ h => ⟨fun c => (h.1 c).2, h.2⟩) (run (F := Bits) s m hm ρ))

/-- The kernel's frame at `[1, 0]`. -/
theorem frame_swap : Cert.quiescent_Kernel := fun m ρ h => frame_words true m (follows_swap m h) ρ

/-- The kernel's frame at `[0, 1]`. -/
theorem frame_stay : Cert.quiescent_Kernel_pre_stay_Kernel := fun m ρ h => frame_words false m (follows_stay m h) ρ

/-- The frame of the kernel at the ideal values, at `[1, 0]`. -/
theorem frame_ideal_swap : Cert.quiescent_KernelIdeal := fun m ρ h =>
  (θ_run Cert.KernelIdeal.defs _ _).mono (fun _ h => ⟨fun c => (h.1 c).2, h.2⟩) (run true m (follows_swap m h) ρ)

/-- The frame of the kernel at the ideal values, at `[0, 1]`. -/
theorem frame_ideal_stay : Cert.quiescent_KernelIdeal_pre_stay_Kernel := fun m ρ h =>
  (θ_run Cert.KernelIdeal.defs _ _).mono (fun _ h => ⟨fun c => (h.1 c).2, h.2⟩) (run false m (follows_stay m h) ρ)

/-! ## The frames of the references -/

/-- The reference's frame, of every argument: it is a straight line of array operations and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frame of the reference that moves words, likewise. -/
theorem frame_reference_words (m : (ℓ : Loc Cert.ReferenceWords.nD Cert.ReferenceWords.τ Cert.ReferenceWords.sig) → Buf (Elt Bits) ℓ)
    (ρ : Dev Cert.ReferenceWords.nD → PrngReg) :
    θ_run (Cert.ReferenceWords.defs (F := Bits)) (onTc (τ := Cert.ReferenceWords.τ) (Cert.ReferenceWords.main (F := Bits)))
      ⟨m, fun _ => 0, ρ⟩ fun r => (∀ c : Dev Cert.ReferenceWords.nD,
        r.2.mem ((c.tc : Thread Cert.ReferenceWords.nD Cert.ReferenceWords.τ).loc Cert.ReferenceWords.main_arg0)
            = m ((c.tc : Thread Cert.ReferenceWords.nD Cert.ReferenceWords.τ).loc Cert.ReferenceWords.main_arg0)
          ∧ r.2.mem ((c.tc : Thread Cert.ReferenceWords.nD Cert.ReferenceWords.τ).loc Cert.ReferenceWords.main_arg1)
            = m ((c.tc : Thread Cert.ReferenceWords.nD Cert.ReferenceWords.τ).loc Cert.ReferenceWords.main_arg1))
        ∧ r.2.sem = fun _ => 0 :=
  (θ_run Cert.ReferenceWords.defs _ _).mono (fun r h => ⟨fun c => (h c).2, sem_eq_zero_of_no_sems (by decide) r.2⟩)
    (Cert.ReferenceWords.Value.run (F := Bits) m ρ)

/-! ## The values -/

/-- Over the reals, at `[1, 0]`: the devices end with the blocks of the reference's result. -/
theorem real_swap : Cert.algebraic_KernelIdeal_ReferenceIdeal := fun m ρ m' ρ' h hx =>
  ⟨_, kernel_value true m (follows_swap m h) _ (fun c => (hx c).1) ρ,
    ideal_value true m' _ rfl ((hx 0).2.symm.trans (follows_swap m h 0)) ρ'⟩

/-- Over the reals, at `[0, 1]`: the devices end with the blocks of the reference's result. -/
theorem real_stay : Cert.algebraic_KernelIdeal_ReferenceIdeal_pre_stay_Kernel := fun m ρ m' ρ' h hx =>
  ⟨_, kernel_value false m (follows_stay m h) _ (fun c => (hx c).1) ρ,
    ideal_value false m' _ rfl ((hx 0).2.symm.trans (follows_stay m h 0)) ρ'⟩

/-- Bit for bit, at `[1, 0]`: the devices end with the blocks of the result of the reference that moves words. -/
theorem words_swap : Cert.bitexact_Kernel_ReferenceWords := fun m ρ m' ρ' h hx =>
  ⟨_, run_kernel m ρ _ (kernel_value (F := Bits) true m (follows_swap m h) _ (fun c => (hx c).1) ρ),
    words_value true m' _ rfl ((hx 0).2.symm.trans (follows_swap m h 0)) ρ'⟩

/-- Bit for bit, at `[0, 1]`: the devices end with the blocks of the result of the reference that moves words. -/
theorem words_stay : Cert.bitexact_Kernel_ReferenceWords_pre_stay_Kernel := fun m ρ m' ρ' h hx =>
  ⟨_, run_kernel m ρ _ (kernel_value (F := Bits) false m (follows_stay m h) _ (fun c => (hx c).1) ρ),
    words_value false m' _ rfl ((hx 0).2.symm.trans (follows_stay m h 0)) ρ'⟩

/-- All the claims. -/
theorem claim : Cert.Claim :=
  ⟨Cert.Kernel.Gen.facts, Cert.KernelIdeal.Gen.facts, Cert.ReferenceIdeal.Gen.facts, Cert.ReferenceWords.Gen.facts,
    Cert.Pre_swap_Kernel.Gen.facts, Cert.Pre_stay_Kernel.Gen.facts, Cert.Pre_swap_ReferenceIdeal.Gen.facts,
    Cert.Pre_stay_ReferenceIdeal.Gen.facts,
    frame_swap, frame_stay, frame_ideal_swap, frame_ideal_stay, frame_reference,
    fun m ρ _ => frame_reference m ρ trivial, fun m ρ _ => frame_reference m ρ trivial,
    fun m ρ _ => frame_reference_words m ρ, fun m ρ _ => frame_reference_words m ρ, trivial,
    real_swap, real_stay, words_swap, words_stay⟩

end Cert.Proof

end
